-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![4096, 2048]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 2048]⟩ ⟨2, ![4096, 2048]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x2048 : Shape := ⟨2, ![1024, 2048]⟩
abbrev S2x1024x2048 : Shape := ⟨3, ![2, 1024, 2048]⟩
abbrev S4x8x128 : Shape := ⟨3, ![4, 8, 128]⟩
abbrev S2 : Shape := ⟨1, ![2]⟩
abbrev S3 : Shape := ⟨1, ![3]⟩
abbrev S4 : Shape := ⟨1, ![4]⟩
abbrev S_ : Shape := ⟨0, ![]⟩
abbrev S1024x1024 : Shape := ⟨2, ![1024, 1024]⟩
abbrev S1x1024x2048 : Shape := ⟨3, ![1, 1024, 2048]⟩
abbrev S1 : Shape := ⟨1, ![1]⟩
abbrev S1x1x1 : Shape := ⟨3, ![1, 1, 1]⟩
abbrev S1x8x128 : Shape := ⟨3, ![1, 8, 128]⟩
abbrev S8x128 : Shape := ⟨2, ![8, 128]⟩
abbrev S1x4x8x128 : Shape := ⟨4, ![1, 4, 8, 128]⟩
abbrev S1x1x1x1 : Shape := ⟨4, ![1, 1, 1, 1]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S1024x2048, .f32⟩
  | .local _ .vmem, ⟨0, _⟩ => ⟨S4096x1024, .f32⟩
  | .local _ .vmem, ⟨1, _⟩ => ⟨S1024x2048, .f32⟩
  | .local _ .vmem, ⟨2, _⟩ => ⟨S1024x2048, .f32⟩
  | .local _ .vmem, ⟨3, _⟩ => ⟨S2x1024x2048, .f32⟩
  | .local _ .vmem, ⟨4, _⟩ => ⟨S1024x2048, .f32⟩
  | .local _ .vmem, ⟨5, _⟩ => ⟨S4x8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 3 → Bool
  | ⟨0, _⟩ => true
  | ⟨1, _⟩ => true
  | ⟨2, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 3 14 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 2

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v9 : BitVec 32 := Scalar.addi v2 c1_i32_5
  let c4_i32_6 : BitVec 32 := 4#32
  let v10 : BitVec 32 := Scalar.remsi v9 c4_i32_6
  let c1_i32_8 : BitVec 32 := 1#32
  let v11 : BitVec 32 := Scalar.muli v10 c1_i32_8
  let v12 : BitVec 32 := Scalar.addi c0_i32 v11
  v12.toNat
def k0_dev2 (d0 : Dev nD) : Nat :=
  let c0_i32_12 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v13 : BitVec 32 := Scalar.addi v2 c2_i32
  let c4_i32_9 : BitVec 32 := 4#32
  let v14 : BitVec 32 := Scalar.remsi v13 c4_i32_9
  let c1_i32_11 : BitVec 32 := 1#32
  let v15 : BitVec 32 := Scalar.muli v14 c1_i32_11
  let v16 : BitVec 32 := Scalar.addi c0_i32_12 v15
  v16.toNat
def k0_dev3 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v17 : BitVec 32 := Scalar.addi v2 c3_i32
  let c4_i32_13 : BitVec 32 := 4#32
  let v18 : BitVec 32 := Scalar.remsi v17 c4_i32_13
  let c1_i32_15 : BitVec 32 := 1#32
  let v19 : BitVec 32 := Scalar.muli v18 c1_i32_15
  let v20 : BitVec 32 := Scalar.addi c0_i32_16 v19
  v20.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_18 : BitVec 32 := 4#32
  let v21 : BitVec 32 := Scalar.addi v2 c4_i32_18
  let c1_i32_19 : BitVec 32 := 1#32
  let v22 : BitVec 32 := Scalar.subi v21 c1_i32_19
  let c4_i32_20 : BitVec 32 := 4#32
  let v23 : BitVec 32 := Scalar.remsi v22 c4_i32_20
  let c1024_i32 : BitVec 32 := 1024#32
  let v24 : BitVec 32 := Scalar.muli v23 c1024_i32
  let v25 : Index := Scalar.indexCast v24
  let c0 : Index := 0#32
  ![v25.toNat, 0]
def k0_dev4 (d0 : Dev nD) : Nat :=
  let c0_i32_31 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_30 : BitVec 32 := 1#32
  let v34 : BitVec 32 := Scalar.muli v4 c1_i32_30
  let v35 : BitVec 32 := Scalar.addi c0_i32_31 v34
  v35.toNat
def k0_off2 (d0 : Dev nD) (c0_i32_37 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v44 : BitVec 32 := Scalar.addi v2 c8_i32
  let c2_i32_36 : BitVec 32 := 2#32
  let v45 : BitVec 32 := Scalar.subi v44 c2_i32_36
  let v46 : BitVec 32 := Scalar.subi v45 c0_i32_37
  let c4_i32_38 : BitVec 32 := 4#32
  let v47 : BitVec 32 := Scalar.remsi v46 c4_i32_38
  let c1024_i32_39 : BitVec 32 := 1024#32
  let v48 : BitVec 32 := Scalar.muli v47 c1024_i32_39
  let v49 : Index := Scalar.indexCast v48
  let c0_40 : Index := 0#32
  ![v49.toNat, 0]
def k0_dev5 (d0 : Dev nD) : Nat :=
  let c0_i32_67 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_66 : BitVec 32 := 1#32
  let v72 : BitVec 32 := Scalar.muli v7 c1_i32_66
  let v73 : BitVec 32 := Scalar.addi c0_i32_67 v72
  v73.toNat
def k0_dev6 (d0 : Dev nD) : Nat :=
  let c0_i32_82 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_81 : BitVec 32 := 1#32
  let v81 : BitVec 32 := Scalar.muli v4 c1_i32_81
  let v82 : BitVec 32 := Scalar.addi c0_i32_82 v81
  v82.toNat
def k0_dev7 (d0 : Dev nD) : Nat :=
  let c0_i32_119 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_118 : BitVec 32 := 1#32
  let v119 : BitVec 32 := Scalar.muli v7 c1_i32_118
  let v120 : BitVec 32 := Scalar.addi c0_i32_119 v119
  v120.toNat
def k0_dev8 (d0 : Dev nD) : Nat :=
  let c0_i32_135 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_134 : BitVec 32 := 1#32
  let v128 : BitVec 32 := Scalar.muli v4 c1_i32_134
  let v129 : BitVec 32 := Scalar.addi c0_i32_135 v128
  v129.toNat
def k0_off3 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v179 : Index := Scalar.indexCast v2
  let c0_180 : Index := 0#32
  let c0_181 : Index := 0#32
  ![v179.toNat, 0, 0]
def k0_off4 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off5 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_187 : BitVec 32 := 0#32
  let c0_i32_188 : BitVec 32 := 0#32
  ![v2.toNat, 0, 0]
def k0_dev9 (d0 : Dev nD) : Nat :=
  let c0_i32_186 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_182 : BitVec 32 := 1#32
  let v183 : BitVec 32 := Scalar.addi v2 c1_i32_182
  let c4_i32_183 : BitVec 32 := 4#32
  let v184 : BitVec 32 := Scalar.remsi v183 c4_i32_183
  let c1_i32_185 : BitVec 32 := 1#32
  let v185 : BitVec 32 := Scalar.muli v184 c1_i32_185
  let v186 : BitVec 32 := Scalar.addi c0_i32_186 v185
  v186.toNat
def k0_dev10 (d0 : Dev nD) : Nat :=
  let c0_i32_195 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_191 : BitVec 32 := 2#32
  let v195 : BitVec 32 := Scalar.addi v2 c2_i32_191
  let c4_i32_192 : BitVec 32 := 4#32
  let v196 : BitVec 32 := Scalar.remsi v195 c4_i32_192
  let c1_i32_194 : BitVec 32 := 1#32
  let v197 : BitVec 32 := Scalar.muli v196 c1_i32_194
  let v198 : BitVec 32 := Scalar.addi c0_i32_195 v197
  v198.toNat
def k0_dev11 (d0 : Dev nD) : Nat :=
  let c0_i32_204 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_200 : BitVec 32 := 3#32
  let v207 : BitVec 32 := Scalar.addi v2 c3_i32_200
  let c4_i32_201 : BitVec 32 := 4#32
  let v208 : BitVec 32 := Scalar.remsi v207 c4_i32_201
  let c1_i32_203 : BitVec 32 := 1#32
  let v209 : BitVec 32 := Scalar.muli v208 c1_i32_203
  let v210 : BitVec 32 := Scalar.addi c0_i32_204 v209
  v210.toNat
def k0_off6 (d0 : Dev nD) (c1_i32_209 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v219 : BitVec 32 := Scalar.addi v2 c1_i32_209
  let c4_i32_210 : BitVec 32 := 4#32
  let v220 : BitVec 32 := Scalar.remsi v219 c4_i32_210
  ![v220.toNat]
def k0_off7 (d0 : Dev nD) (c1_i32_209 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v219 : BitVec 32 := Scalar.addi v2 c1_i32_209
  let c4_i32_210 : BitVec 32 := 4#32
  let v220 : BitVec 32 := Scalar.remsi v219 c4_i32_210
  let c0_i32_214 : BitVec 32 := 0#32
  let c0_i32_215 : BitVec 32 := 0#32
  ![v220.toNat, 0, 0]
def k0_dev12 (d0 : Dev nD) : Nat :=
  let c0_i32_269 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_265 : BitVec 32 := 1#32
  let v285 : BitVec 32 := Scalar.addi v2 c1_i32_265
  let c4_i32_266 : BitVec 32 := 4#32
  let v286 : BitVec 32 := Scalar.remsi v285 c4_i32_266
  let c1_i32_268 : BitVec 32 := 1#32
  let v287 : BitVec 32 := Scalar.muli v286 c1_i32_268
  let v288 : BitVec 32 := Scalar.addi c0_i32_269 v287
  v288.toNat
def k0_dev13 (d0 : Dev nD) : Nat :=
  let c0_i32_274 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_270 : BitVec 32 := 2#32
  let v289 : BitVec 32 := Scalar.addi v2 c2_i32_270
  let c4_i32_271 : BitVec 32 := 4#32
  let v290 : BitVec 32 := Scalar.remsi v289 c4_i32_271
  let c1_i32_273 : BitVec 32 := 1#32
  let v291 : BitVec 32 := Scalar.muli v290 c1_i32_273
  let v292 : BitVec 32 := Scalar.addi c0_i32_274 v291
  v292.toNat
def k0_dev14 (d0 : Dev nD) : Nat :=
  let c0_i32_279 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_275 : BitVec 32 := 3#32
  let v293 : BitVec 32 := Scalar.addi v2 c3_i32_275
  let c4_i32_276 : BitVec 32 := 4#32
  let v294 : BitVec 32 := Scalar.remsi v293 c4_i32_276
  let c1_i32_278 : BitVec 32 := 1#32
  let v295 : BitVec 32 := Scalar.muli v294 c1_i32_278
  let v296 : BitVec 32 := Scalar.addi c0_i32_279 v295
  v296.toNat
abbrev stage0_0 : Fin 1 → Memref sig .tc .vmem S4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_cst_2 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Proof.Protocol.lean ====
/-
The ring reduce-scatter with a maximum exchange: devices, cells, contents, and the schedule of duties.

Device `c` sends its partial sums to `peer c 1` (its right neighbour) and receives from `peer c 3` (its left
one). Every signal and every remote copy is a payment of a duty of a cell; this module states which duties
each cell has in each round, what a payment is worth and what it hands over.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KernelIdeal.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the ring's (duties `Fin 4`, indices levels) -/

abbrev UB : Type := URounds (GSem nD τ sig) (Fin 4)
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The devices -/

set_option backward.proofsInPublic true in
/-- The device `k` steps around the ring from `c`. -/
def peer (c : Dev nD) (k : ℕ) : Dev nD := ⟨(c.val + k) % 4, Nat.mod_lt _ (by decide)⟩

abbrev nxt (c : Dev nD) : Dev nD := peer c 1
abbrev prv (c : Dev nD) : Dev nD := peer c 3

theorem peer_peer (c : Dev nD) (k l : ℕ) (h : (k + l) % 4 = 0) : peer (peer c k) l = c :=
  Fin.ext (by
    have hc : c.val < 4 := c.isLt
    show ((c.val + k) % 4 + l) % 4 = c.val
    omega)
theorem prv_nxt (c : Dev nD) : prv (nxt c) = c := peer_peer c 1 3 rfl
theorem nxt_prv (c : Dev nD) : nxt (prv c) = c := peer_peer c 3 1 rfl

/-- Stepping `k` around, with the steps back. -/
def rot (k l : ℕ) (h : (k + l) % 4 = 0) : Dev nD ≃ Dev nD :=
  ⟨fun c => peer c k, fun c => peer c l, fun c => peer_peer c k l h, fun c => peer_peer c l k (by omega)⟩

theorem dev1_eq (c : Dev nD) : (⟨k0_dev1 c, k0_dev1_lt c⟩ : Dev nD) = peer c 1 := Fin.ext (k0_dev1_eq c)
theorem dev2_eq (c : Dev nD) : (⟨k0_dev2 c, k0_dev2_lt c⟩ : Dev nD) = peer c 2 := Fin.ext (k0_dev2_eq c)
theorem dev3_eq (c : Dev nD) : (⟨k0_dev3 c, k0_dev3_lt c⟩ : Dev nD) = peer c 3 := Fin.ext (k0_dev3_eq c)
theorem dev4_eq (c : Dev nD) : (⟨k0_dev4 c, k0_dev4_lt c⟩ : Dev nD) = peer c 1 := Fin.ext (k0_dev4_eq c)
theorem dev5_eq (c : Dev nD) : (⟨k0_dev5 c, k0_dev5_lt c⟩ : Dev nD) = peer c 3 := Fin.ext (k0_dev5_eq c)
theorem dev6_eq (c : Dev nD) : (⟨k0_dev6 c, k0_dev6_lt c⟩ : Dev nD) = peer c 1 := Fin.ext (k0_dev6_eq c)
theorem dev7_eq (c : Dev nD) : (⟨k0_dev7 c, k0_dev7_lt c⟩ : Dev nD) = peer c 3 := Fin.ext (k0_dev7_eq c)
theorem dev8_eq (c : Dev nD) : (⟨k0_dev8 c, k0_dev8_lt c⟩ : Dev nD) = peer c 1 := Fin.ext (k0_dev8_eq c)
theorem dev9_eq (c : Dev nD) : (⟨k0_dev9 c, k0_dev9_lt c⟩ : Dev nD) = peer c 1 := Fin.ext (k0_dev9_eq c)
theorem dev10_eq (c : Dev nD) : (⟨k0_dev10 c, k0_dev10_lt c⟩ : Dev nD) = peer c 2 := Fin.ext (k0_dev10_eq c)
theorem dev11_eq (c : Dev nD) : (⟨k0_dev11 c, k0_dev11_lt c⟩ : Dev nD) = peer c 3 := Fin.ext (k0_dev11_eq c)
theorem dev12_eq (c : Dev nD) : (⟨k0_dev12 c, k0_dev12_lt c⟩ : Dev nD) = peer c 1 := Fin.ext (k0_dev12_eq c)
theorem dev13_eq (c : Dev nD) : (⟨k0_dev13 c, k0_dev13_lt c⟩ : Dev nD) = peer c 2 := Fin.ext (k0_dev13_eq c)
theorem dev14_eq (c : Dev nD) : (⟨k0_dev14 c, k0_dev14_lt c⟩ : Dev nD) = peer c 3 := Fin.ext (k0_dev14_eq c)

/-! ## The memrefs -/

abbrev xM : Memref sig .tc .vmem S4096x1024 .f32 := Memref.whole cc0_stg0_0
abbrev wM : Memref sig .tc .vmem S1024x2048 .f32 := Memref.whole cc0_stg1_0
abbrev oM : Memref sig .tc .vmem S1024x2048 .f32 := Memref.whole cc0_stg2_0
abbrev cM : Memref sig .tc .vmem S2x1024x2048 .f32 := Memref.whole cc0_scratch0
abbrev pM : Memref sig .tc .vmem S1024x2048 .f32 := Memref.whole cc0_scratch1
abbrev aM : Memref sig .tc .vmem S4x8x128 .f32 := Memref.whole cc0_scratch2

/-- The rectangle of one half of the communication buffer, and the half as the copies address it. -/
abbrev r0 : Rect S2x1024x2048 := Rect.unit (s := S2x1024x2048) ![0, 0, 0] S1x1024x2048.size inb_S2x1024x2048_S1x1024x2048_0_0_0
abbrev r1 : Rect S2x1024x2048 := Rect.unit (s := S2x1024x2048) ![1, 0, 0] S1x1024x2048.size inb_S2x1024x2048_S1x1024x2048_1_0_0
abbrev sl0 : Memref sig .tc .vmem S1024x2048 .f32 := (cM.slice r0 (fun _ => rfl)).squeeze S1024x2048 squeezes_S1x1024x2048_S1024x2048
abbrev sl1 : Memref sig .tc .vmem S1024x2048 .f32 := (cM.slice r1 (fun _ => rfl)).squeeze S1024x2048 squeezes_S1x1024x2048_S1024x2048

/-- Row `j` of the buffer of maxima as the copies address it, and as the store does. -/
abbrev rRow (j : Dev nD) : Rect S4x8x128 := Rect.unit (s := S4x8x128) (k0_off5 j) S1x8x128.size (k0_off5_inb j)
abbrev rRow' (j : Dev nD) : Rect S4x8x128 := Rect.unit (s := S4x8x128) (k0_off3 j) S1x8x128.size (k0_off3_inb j)
abbrev aRow (j : Dev nD) : Memref sig .tc .vmem S8x128 .f32 := (aM.slice (rRow j) (fun _ => rfl)).squeeze S8x128 squeezes_S1x8x128_S8x128

/-- What one copy of a half, and one copy of a row, credits. -/
def N : ℕ := (sl0 : Memref sig .tc .vmem S1024x2048 .f32).view.dmaCredit
def Na : ℕ := (aRow 0 : Memref sig .tc .vmem S8x128 .f32).view.dmaCredit
theorem N_pos : 0 < N := View.dmaCredit_pos _ (by decide)
theorem Na_pos : 0 < Na := View.dmaCredit_pos _ (by decide)

/-! ## The cells -/

/-- A device's fourteen semaphores: 0 credit, 1 exit, 2 barrier, 3–4 sends, 5–6 receives, 7–9 sends of
    maxima, 10–13 receives of maxima (by the sending device). -/
def csem : Fin 14 → SemLoc sig
  | 0 => .reg cc0_scratch7.sem
  | 1 => .reg cc0_scratch8.sem
  | 2 => .reg (SemArray.scalar (sig.barrier 0 rfl) : Sems sig S_).sem
  | 3 => .dma ((cc0_scratch3.slice (Rect.unit (s := S2) ![0] S1.size inb_S2_S1_0)).squeeze S_ squeezes_S1_S_).sem
  | 4 => .dma ((cc0_scratch3.slice (Rect.unit (s := S2) ![1] S1.size inb_S2_S1_1)).squeeze S_ squeezes_S1_S_).sem
  | 5 => .dma ((cc0_scratch4.slice (Rect.unit (s := S2) ![0] S1.size inb_S2_S1_0)).squeeze S_ squeezes_S1_S_).sem
  | 6 => .dma ((cc0_scratch4.slice (Rect.unit (s := S2) ![1] S1.size inb_S2_S1_1)).squeeze S_ squeezes_S1_S_).sem
  | 7 => .dma ((cc0_scratch5.slice (Rect.unit (s := S3) ![0] S1.size inb_S3_S1_0)).squeeze S_ squeezes_S1_S_).sem
  | 8 => .dma ((cc0_scratch5.slice (Rect.unit (s := S3) ![1] S1.size inb_S3_S1_1)).squeeze S_ squeezes_S1_S_).sem
  | 9 => .dma ((cc0_scratch5.slice (Rect.unit (s := S3) ![2] S1.size inb_S3_S1_2)).squeeze S_ squeezes_S1_S_).sem
  | 10 => .dma ((cc0_scratch6.slice (Rect.unit (s := S4) (k0_off4 0) S1.size (k0_off4_inb 0))).squeeze S_ squeezes_S1_S_).sem
  | 11 => .dma ((cc0_scratch6.slice (Rect.unit (s := S4) (k0_off4 1) S1.size (k0_off4_inb 1))).squeeze S_ squeezes_S1_S_).sem
  | 12 => .dma ((cc0_scratch6.slice (Rect.unit (s := S4) (k0_off4 2) S1.size (k0_off4_inb 2))).squeeze S_ squeezes_S1_S_).sem
  | 13 => .dma ((cc0_scratch6.slice (Rect.unit (s := S4) (k0_off4 3) S1.size (k0_off4_inb 3))).squeeze S_ squeezes_S1_S_).sem

theorem csem_injective : Function.Injective csem := by decide +kernel

abbrev kcell (ck : Dev nD × Fin 14) : GSem nD τ sig := ((ck.1 : Thread nD τ), csem ck.2)

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-- The receive semaphore for device `j`'s maximum. -/
def arK (j : Dev nD) : Fin 14 := ⟨10 + j.val, by have h : j.val < 4 := j.isLt; omega⟩

theorem arSend_sem (j : Dev nD) : (SemLoc.dma ((cc0_scratch6.slice (Rect.unit (s := S4) (k0_off4 j) S1.size (k0_off4_inb j))).squeeze S_ squeezes_S1_S_).sem : SemLoc sig) = csem (arK j) := by
  revert j; decide +kernel
theorem arWait1_sem (c : Dev nD) : (SemLoc.dma ((cc0_scratch6.slice (Rect.unit (s := S4) (k0_off6 c 1#32) S1.size (k0_off6_inb c 0))).squeeze S_ squeezes_S1_S_).sem : SemLoc sig) = csem (arK (peer c 1)) := by
  revert c; decide +kernel
theorem arWait2_sem (c : Dev nD) : (SemLoc.dma ((cc0_scratch6.slice (Rect.unit (s := S4) (k0_off6 c 2#32) S1.size (k0_off6_inb c 1))).squeeze S_ squeezes_S1_S_).sem : SemLoc sig) = csem (arK (peer c 2)) := by
  revert c; decide +kernel
theorem arWait3_sem (c : Dev nD) : (SemLoc.dma ((cc0_scratch6.slice (Rect.unit (s := S4) (k0_off6 c 3#32) S1.size (k0_off6_inb c 2))).squeeze S_ squeezes_S1_S_).sem : SemLoc sig) = csem (arK (peer c 3)) := by
  revert c; decide +kernel

/-! ## Contents -/

/-- Device `c`'s operands as fetched. -/
def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))

/-- The product of the 1024 rows of `x` at an offset with `w`, on device `c`. -/
def dotAt (c : Dev nD) (off : Fin 2 → ℕ) (h : ∀ a, off a + S1024x1024.size a ≤ S4096x1024.size a) : FVec F S1024x2048 .f32 :=
  k0_pay2 (xM.view.readAt (Elt F) (Rect.unit (s := S4096x1024) off S1024x1024.size h).toLoadRect (xstg m ρ c)) (wstg m ρ c)

/-- What device `c` sends in step 0; then for each step what it computes meanwhile and what it sends next. -/
def sent0 (c : Dev nD) : FVec F S1024x2048 .f32 := dotAt m ρ c (k0_off1 c) (k0_off1_inb c)
def part0 (c : Dev nD) : FVec F S1024x2048 .f32 := dotAt m ρ c (k0_off2 c 0#32) (k0_off2_inb c 0)
def part1 (c : Dev nD) : FVec F S1024x2048 .f32 := dotAt m ρ c (k0_off2 c 1#32) (k0_off2_inb c 1)
def part2 (c : Dev nD) : FVec F S1024x2048 .f32 := dotAt m ρ c (k0_off2 c 2#32) (k0_off2_inb c 2)
def sent1 (c : Dev nD) : FVec F S1024x2048 .f32 := addf (sent0 m ρ (prv c)) (part0 m ρ c)
def sent2 (c : Dev nD) : FVec F S1024x2048 .f32 := addf (sent1 m ρ (prv c)) (part1 m ρ c)
/-- Device `c`'s block of the product. -/
def yAt (c : Dev nD) : FVec F S1024x2048 .f32 := addf (sent2 m ρ (prv c)) (part2 m ρ c)
/-- Its maximum modulus, over one row; all four rows. -/
def rowAt (c : Dev nD) : FVec F S1x8x128 .f32 := k0_pay9 (yAt m ρ c)
def amAll : (cc0_scratch2 : Ref sig .tc).ty.Contents (Elt F) :=
  fun i => rowAt m ρ (Fin.cast rfl (i (0 : Fin 3)) : Fin 4) (fun a => ⟨0, by fin_cases a <;> exact Nat.succ_pos _⟩)
/-- The kernel's result on device `c`. -/
def outAt (c : Dev nD) : FVec F S1024x2048 .f32 := k0_pay10 (amAll m ρ) (yAt m ρ c)

/-! ## Holding a half, a row -/

/-- A half of device `c`'s communication buffer, holding `X`. -/
def own0 (c : Dev nD) (X : FVec F S1024x2048 .f32) : sProp 𝕄 :=
  iprop(∃ f : Buf (Elt F) (sl0.view.loc (c : Thread nD τ)), ⌜sl0.view.read (Elt F) f = X⌝ ∗ (sl0.view.loc (c : Thread nD τ) ↦[sl0.view.set]{fullShare} f))
def own1 (c : Dev nD) (X : FVec F S1024x2048 .f32) : sProp 𝕄 :=
  iprop(∃ f : Buf (Elt F) (sl1.view.loc (c : Thread nD τ)), ⌜sl1.view.read (Elt F) f = X⌝ ∗ (sl1.view.loc (c : Thread nD τ) ↦[sl1.view.set]{fullShare} f))
/-- A half, whatever it holds. -/
def free0 (c : Dev nD) : sProp 𝕄 :=
  iprop(∃ f : Buf (Elt F) (sl0.view.loc (c : Thread nD τ)), (sl0.view.loc (c : Thread nD τ) ↦[sl0.view.set]{fullShare} f))
def free1 (c : Dev nD) : sProp 𝕄 :=
  iprop(∃ f : Buf (Elt F) (sl1.view.loc (c : Thread nD τ)), (sl1.view.loc (c : Thread nD τ) ↦[sl1.view.set]{fullShare} f))
/-- Row `j` of device `c`'s buffer of maxima, at a share, holding device `j`'s; whatever it holds. -/
def rowPts (c j : Dev nD) (q : PosShare TreeShare) : sProp 𝕄 :=
  (aRow j).view.loc (c : Thread nD τ) ↦[(aRow j).view.set]{q} amAll m ρ
def freeRow (c j : Dev nD) : sProp 𝕄 :=
  iprop(∃ f : Buf (Elt F) ((aRow j).view.loc (c : Thread nD τ)), ((aRow j).view.loc (c : Thread nD τ) ↦[(aRow j).view.set]{fullShare} f))

omit [FloatOps F] in
instance own0_storable (c : Dev nD) (X) : BI.Storable (upEmb : UEmb _ 𝕄) (own0 (F := F) c X) := by unfold own0; infer_instance
omit [FloatOps F] in
instance own1_storable (c : Dev nD) (X) : BI.Storable (upEmb : UEmb _ 𝕄) (own1 (F := F) c X) := by unfold own1; infer_instance
omit [FloatOps F] in
instance free0_storable (c : Dev nD) : BI.Storable (upEmb : UEmb _ 𝕄) (free0 (F := F) c) := by unfold free0; infer_instance
omit [FloatOps F] in
instance free1_storable (c : Dev nD) : BI.Storable (upEmb : UEmb _ 𝕄) (free1 (F := F) c) := by unfold free1; infer_instance
instance rowPts_storable (c j : Dev nD) (q) : BI.Storable (upEmb : UEmb _ 𝕄) (rowPts (F := F) m ρ c j q) := by unfold rowPts; infer_instance
omit [FloatOps F] in
instance freeRow_storable (c j : Dev nD) : BI.Storable (upEmb : UEmb _ 𝕄) (freeRow (F := F) c j) := by unfold freeRow; infer_instance

/-- The shares the three copies of a row read under. -/
def qs : Fin 3 → PosShare TreeShare
  | 0 => fullShare.left
  | 1 => fullShare.right.left
  | 2 => fullShare.right.right

/-! ## The schedule -/

/-- Cell `k`'s number of rounds. -/
def rds (k : Fin 14) : ℕ := if k = 0 ∨ k = 3 ∨ k = 6 then 2 else 1
/-- The duties of cell `k` of device `c` in each of its rounds: barrier and exit are paid by the three peers
    (duty `d` by the device `d` steps before), any other cell by one device; nobody sends itself its maximum. -/
def dutySet (c : Dev nD) (k : Fin 14) : Finset (Fin 4) :=
  if k = 1 ∨ k = 2 then {1, 2, 3} else if k = arK c then ∅ else {0}
def worth (k : Fin 14) : ℕ := if k.val < 3 then 1 else if k.val < 7 then N else Na

/-- What a peer's barrier signal hands over: its row for this device's maximum; the right neighbour's also the
    half this device's step 0 goes to. -/
def barPay (c : Dev nD) (d : Fin 4) : sProp 𝕄 :=
  if d = 3 then iprop(freeRow (peer c 1) c ∗ free1 (peer c 1))
  else if d = 2 then freeRow (peer c 2) c
  else freeRow (peer c 3) c

/-- What is handed over at cell `k` of device `c`, round `r`, duty `d`. -/
def pay (c : Dev nD) : Fin 14 → ℕ → Fin 4 → sProp 𝕄
  | 0, r, _ => if r = 0 then free0 (nxt c) else iprop(free1 (nxt c) ∗ reached ER (kcell (nxt c, 6)) 1)
  | 1, _, _ => iprop(emp)
  | 2, _, d => barPay c d
  | 3, _, _ => free0 c
  | 4, _, _ => free1 c
  | 5, _, _ => iprop(own0 c (sent1 m ρ (prv c)) ∗ reached ER (kcell (prv c, 0)) 1)
  | 6, r, _ => if r = 0 then own1 c (sent0 m ρ (prv c)) else own1 c (sent2 m ρ (prv c))
  | 7, _, _ => rowPts m ρ c c (qs 0)
  | 8, _, _ => rowPts m ρ c c (qs 1)
  | 9, _, _ => rowPts m ρ c c (qs 2)
  | 10, _, _ => rowPts m ρ c 0 fullShare
  | 11, _, _ => rowPts m ρ c 1 fullShare
  | 12, _, _ => rowPts m ρ c 2 fullShare
  | 13, _, _ => rowPts m ρ c 3 fullShare

instance pay_storable (c : Dev nD) (k : Fin 14) (r : ℕ) (d : Fin 4) : BI.Storable (upEmb : UEmb _ 𝕄) (pay (F := F) m ρ c k r d) := by
  fin_cases k <;> (dsimp only [pay]; try unfold barPay) <;> (repeat' split) <;> infer_instance

/-- The cell a semaphore is. -/
def kOf (s : SemLoc sig) : Option (Fin 14) := (List.finRange 14).find? fun k => decide (csem k = s)

theorem kOf_csem (k : Fin 14) : kOf (csem k) = some k := by
  unfold kOf
  rw [List.find?_eq_some_iff_append]
  refine ⟨decide_eq_true rfl, (List.finRange 14).take k, (List.finRange 14).drop (k + 1), ?_, ?_⟩
  · revert k; decide
  · intro a ha
    have : a ≠ k := by revert a k; decide
    simpa using fun h => this (csem_injective h)

def ringRd : Rounds.Schedule (GSem nD τ sig) (Fin 4) 𝕄 where
  duties g r := match kOf g.2 with
    | some k => if g.1.2 = .tc ∧ r < rds k then dutySet g.1.1 k else ∅
    | none => ∅
  unitless _ := False
  amount g _ _ := match kOf g.2 with
    | some k => worth k
    | none => 1
  payload g r d := match kOf g.2 with
    | some k => pay m ρ g.1.1 k r d
    | none => iprop(emp)
  amount_pos g _ _ _ := by
    split
    · unfold worth; split
      · exact Nat.one_pos
      · split
        · exact N_pos
        · exact Na_pos
    · exact Nat.one_pos

instance ringRd_payload_storable (g : GSem nD τ sig) (r : ℕ) (d : Fin 4) :
    BI.Storable (upEmb : UEmb _ 𝕄) ((ringRd (F := F) m ρ).payload g r d) := by
  dsimp only [ringRd]
  split <;> infer_instance

section Sched
variable (c : Dev nD) (k : Fin 14)

theorem duties_at (r : ℕ) : (ringRd (F := F) m ρ).duties (kcell (c, k)) r = if r < rds k then dutySet c k else ∅ := by
  dsimp only [ringRd, kcell]
  rw [kOf_csem]
  by_cases h : r < rds k
  · exact (if_pos ⟨rfl, h⟩).trans (if_pos h).symm
  · exact (if_neg fun h' => h h'.2).trans (if_neg h).symm

theorem amount_at (r : ℕ) (d : Fin 4) : (ringRd (F := F) m ρ).amount (kcell (c, k)) r d = worth k := by
  dsimp only [ringRd, kcell]; rw [kOf_csem]

theorem payload_at (r : ℕ) (d : Fin 4) : (ringRd (F := F) m ρ).payload (kcell (c, k)) r d = pay m ρ c k r d := by
  dsimp only [ringRd, kcell]; rw [kOf_csem]

theorem duties_later : ∀ r, rds k ≤ r → (ringRd (F := F) m ρ).duties (kcell (c, k)) r = ∅ := fun r hr => by
  rw [duties_at, if_neg (Nat.not_lt.mpr hr)]

theorem expect_one {r : ℕ} (hr : r < rds k) (hd : dutySet c k = {0}) : (ringRd (F := F) m ρ).expect (kcell (c, k)) r = worth k := by
  unfold Schedule.expect Schedule.amountOf
  rw [duties_at, if_pos hr, hd, Finset.sum_singleton, amount_at]

theorem rest_one {r : ℕ} (hr : r < rds k) (hd : dutySet c k = {0}) :
    bigSep ((ringRd (F := F) m ρ).duties (kcell (c, k)) r \ ∅) (fun d => (ringRd (F := F) m ρ).payload (kcell (c, k)) r d) = pay m ρ c k r 0 := by
  rw [Finset.sdiff_empty, duties_at, if_pos hr, hd, bigSep_singleton, payload_at]

theorem expect_three (hd : dutySet c k = {1, 2, 3}) : (ringRd (F := F) m ρ).expect (kcell (c, k)) 0 = 3 * worth k := by
  unfold Schedule.expect Schedule.amountOf
  rw [duties_at, if_pos (by unfold rds; split <;> decide), hd, Finset.sum_congr rfl fun d _ => amount_at m ρ c k 0 d, Finset.sum_const, smul_eq_mul]
  rfl

theorem rest_three (hd : dutySet c k = {1, 2, 3}) :
    bigSep ((ringRd (F := F) m ρ).duties (kcell (c, k)) 0 \ ∅) (fun d => (ringRd (F := F) m ρ).payload (kcell (c, k)) 0 d)
      = iprop(pay m ρ c k 0 1 ∗ pay m ρ c k 0 2 ∗ pay m ρ c k 0 3) := by
  rw [Finset.sdiff_empty, duties_at, if_pos (by unfold rds; split <;> decide), hd,
    bigSep_eq_bigSepL_of_eq [(1 : Fin 4), 2, 3] (by decide) (by decide)]
  simp only [bigSepL_cons_cons, bigSepL_singleton, payload_at]
  rfl

theorem pay_arK (j : Dev nD) (r : ℕ) (d : Fin 4) : pay m ρ c (arK j) r d = rowPts m ρ c j fullShare := by
  fin_cases j <;> rfl

end Sched

end Cert.KernelIdeal.RingProof

end
-- ==== Proof.Steps.lean ====
/-
What a device owes, the levels, and one rule for each kind of step the body takes: a signal, a remote copy, a
wait, a load or store of a half of the communication buffer.
-/
module

public import proofs.«01_k».proof.Proof.Protocol
public import Idealize.ShloMosaic.Lib.Pipeline.Value

@[expose] public section

noncomputable section

namespace Cert.KernelIdeal.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

abbrev 𝒱₀ : Variants := Variants.none

/-! ## What a device owes -/

/-- A payment: how far ahead the device paid is and how far it is on from there to the payer, which of its cells
    is paid, the level, the amount. -/
structure Pmt where
  ahead : ℕ
  back : ℕ
  cell : Dev nD → Fin 14
  level : ℕ
  amt : ℕ

/-- A device's payments in the order it makes them. -/
def pmts : List Pmt :=
  [⟨1, 3, fun _ => 2, 1, 1⟩, ⟨2, 2, fun _ => 2, 1, 1⟩, ⟨3, 1, fun _ => 2, 1, 1⟩,
   ⟨1, 3, fun _ => 6, 2, N⟩, ⟨3, 1, fun _ => 0, 3, 1⟩, ⟨1, 3, fun _ => 5, 4, N⟩, ⟨3, 1, fun _ => 0, 5, 1⟩, ⟨1, 3, fun _ => 6, 6, N⟩,
   ⟨1, 3, arK, 7, Na⟩, ⟨2, 2, arK, 7, Na⟩, ⟨3, 1, arK, 7, Na⟩,
   ⟨1, 3, fun _ => 1, 8, 1⟩, ⟨2, 2, fun _ => 1, 8, 1⟩, ⟨3, 1, fun _ => 1, 8, 1⟩]

def Pmt.tally (p : Pmt) (c : Dev nD) : CellTallies nD τ sig ℕ := tallyAt (kcell (peer c p.ahead, p.cell c)) p.level p.amt

def owing : List Pmt → Dev nD → CellTallies nD τ sig ℕ
  | [], _ => 0
  | p :: l, c => owing l c + p.tally c

/-- What device `c` owes after its first `n` payments. -/
def owed (n : ℕ) (c : Dev nD) : CellTallies nD τ sig ℕ := owing (pmts.drop n) c

/-! ## The levels: an index is its level -/

def L (g : GSem nD τ sig) : Finset ℕ := if g.1.2 = .tc then Finset.range 9 else ∅
def lv (_ : GSem nD τ sig) (i : ℕ) : ℕ := i

theorem L_of_ne (g : GSem nD τ sig) (h : g.1.2 ≠ .tc) : L g = ∅ := if_neg h
theorem L_tc (c : Dev nD) (sm : SemLoc sig) : L ((c : Thread nD τ), sm) = Finset.range 9 := if_pos rfl

theorem owing_pos {l : List Pmt} {c : Dev nD} {g : GSem nD τ sig} {i : ℕ} (h : 0 < owing l c g i) :
    g.1.2 = .tc ∧ ∃ p ∈ l, p.level = i := by
  induction l with
  | nil => exact absurd h (Nat.lt_irrefl 0)
  | cons p l ih =>
    unfold owing at h
    rw [Pi.add_apply, Finsupp.add_apply] at h
    by_cases h' : 0 < owing l c g i
    · obtain ⟨ht, q, hq, hi⟩ := ih h'
      exact ⟨ht, q, List.mem_cons_of_mem _ hq, hi⟩
    · unfold Pmt.tally at h
      rw [tallyAt_apply] at h
      by_cases hg : g = kcell (peer c p.ahead, p.cell c) ∧ i = p.level
      · exact ⟨by rw [hg.1], p, List.mem_cons_self, hg.2.symm⟩
      · rw [if_neg hg] at h; omega

/-- A device may wait at level `b` on any of its cells while all it owes lies above `b`. -/
theorem mayWait (b n : ℕ) (hb : b < 9) (hn : ∀ p ∈ pmts.drop n, b < p.level ∧ p.level < 9) (c : Dev nD) (sm : SemLoc sig) :
    (levAts L lv : sProp 𝕄) ⊢ MayWait (c : Thread nD τ) sm b (owed n c) :=
  MayOwe.of_cut (L := L) (lev := lv) b
    (fun p hp => by rw [Finset.mem_singleton.mp hp, L_tc]; exact Finset.mem_range.mpr hb)
    (fun g i hg => by
      obtain ⟨ht, p, hp, rfl⟩ := owing_pos hg
      unfold L; rw [if_pos ht]; exact Finset.mem_range.mpr (hn p hp).2)
    (fun p hp => by rw [Finset.mem_singleton.mp hp]; exact le_rfl)
    (fun g i hg => by obtain ⟨ht, p, hp, rfl⟩ := owing_pos hg; exact (hn p hp).1)

/-- What a device owes, whatever it waited for. -/
def ow (c : Dev nD) (n : ℕ) : sProp 𝕄 := iprop(∃ W, owes (c : Thread nD τ) (owed n c) W)

/-! ## The cells' invariants -/

section Body

variable (K : Dev nD × Fin 14 → ℕ)

/-- Every cell's invariant, and that round 0 of every cell is reached. -/
def records : sProp 𝕄 :=
  bigSep Finset.univ fun ck : Dev nD × Fin 14 => iprop(cellInv ER (ringRd m ρ) (K ck) (kcell ck) ∗ reached ER (kcell ck) 0)

instance records_persistent : BI.Persistent (records m ρ K) := by unfold records; infer_instance

theorem record_at (ck : Dev nD × Fin 14) :
    records m ρ K ⊢ iprop(cellInv ER (ringRd m ρ) (K ck) (kcell ck) ∗ reached ER (kcell ck) 0) := by
  unfold records
  exact (Entails.of_eq (bigSep_erase (Finset.mem_univ ck))).trans sep_elim_left

abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- The token of duty `d` of round `r` of cell `k` of device `c`; the device's position at its cell `k`. -/
abbrev tok (c : Dev nD) (k : Fin 14) (r : ℕ) (d : Fin 4) : sProp 𝕄 := dutyTok ER (kcell (c, k)) r d
abbrev pos (c : Dev nD) (k : Fin 14) (r : ℕ) : sProp 𝕄 := atPos ER (kcell (c, k)) r ∅ 0

/-- A signal: the next payment `n` of device `c`, duty `d` of round `r` of cell `k` of `t`. -/
theorem step_signal (c t dst : Dev nD) (hdst : dst = t) (k : Fin 14) (n r : ℕ) (d : Fin 4) {sem : Sem sig} (hs : csem k = SemLoc.reg sem)
    (i : ℕ) {a : ℕ} (hO : owed n c = owed (n + 1) c + tallyAt (kcell (t, k)) i a) (ha : worth k = a)
    (hr : r < rds k) (hd : d ∈ dutySet t k)
    {α : Type} {Q : α → sProp 𝕄} {k' : PUnit → Prog (TpuEff nD τ sig (Elt F) Λ₀ .tc) α} :
    iprop(records m ρ K ∗ ow c n ∗ tok t k r d ∗ pay m ρ t k r d ∗ reached ER (kcell (t, k)) r)
      ⊢ iprop((ow c (n + 1) -∗ WP c (k' ⟨⟩) Q) -∗ WP c (.op (.semSignal (dst : Thread nD τ) sem a) k') Q) := by
  subst hdst ha
  have hg : kcell (dst, k) = ((dst : Thread nD τ), SemLoc.reg sem) := by unfold kcell; rw [hs]
  have hd' : d ∈ (ringRd (F := F) m ρ).duties ((dst : Thread nD τ), SemLoc.reg sem) r := by rw [← hg, duties_at, if_pos hr]; exact hd
  have hk' : (ringRd (F := F) m ρ).amount ((dst : Thread nD τ), SemLoc.reg sem) r d = worth k := by rw [← hg, amount_at]
  rw [hg] at hO
  unfold ow
  iintro ⟨#HR, ⟨%W, HO⟩, Ht, Hp, #Hre⟩ Hk
  ihave HI := (record_at m ρ K (dst, k)) $$ HR
  icases HI with ⟨#HI, -⟩
  ihave Hp' := (Entails.of_eq (payload_at m ρ dst k r d).symm) $$ Hp
  unfold tok
  rw [hg]
  iapply (Rounds.wp_signal 𝒱₀ ER (ringRd m ρ) (c : Thread nD τ) none (dst := (dst : Thread nD τ)) (κ := K (dst, k)) (d := d) hd' hk' i (owed (n + 1) c) hO (W := W))
    $$ [HO Ht Hp']
  · isplitr; · iexact HI
    isplitl [HO]; · iexact HO
    isplitl [Ht]; · iexact Ht
    isplitl [Hp']; · iexact Hp'
    iexact Hre
  iintro HO
  iapply Hk
  iexists W; iexact HO

/-- A remote copy: the next payment `n` of device `c`, on cell `k₂` of `t`; `c`'s own cell `k₁` gets the source back. -/
theorem step_send (c t n' : Dev nD) (hn' : n' = t) (k₁ k₂ : Fin 14) (n r₁ r₂ : ℕ)
    {s : Shape} {src : Memref sig .tc .vmem s .f32} {dst : Memref sig .tc .vmem s .f32}
    {hsc : dst.view.ref.isScScratch = false} {sS sem : SemLoc sig} (h₁ : sS = csem k₁) (h₂ : sem = csem k₂)
    {hsrc : src.view.WordExact} {hdst : dst.view.WordExact} {hsem : DmaTarget.Typed (nD := nD) (τ := τ) .vmem sem (.remote (Dev.tc n' : Thread nD τ) dst sS hsc)}
    (i : ℕ) {a : ℕ} (hN : dst.view.amount sem = a) (ha₁ : worth k₁ = a) (ha₂ : worth k₂ = a)
    (hO : owed n c = owed (n + 1) c + tallyAt (kcell (t, k₂)) i a)
    (hr₁ : r₁ < rds k₁) (hd₁ : 0 ∈ dutySet c k₁) (hr₂ : r₂ < rds k₂) (hd₂ : 0 ∈ dutySet t k₂)
    {q : PosShare TreeShare} {fs : Buf (Elt F) (src.view.loc (c : Thread nD τ))} {fd : Buf (Elt F) (dst.view.loc (t : Thread nD τ))} {G : sProp 𝕄}
    (hpay₁ : (src.view.loc (c : Thread nD τ) ↦[src.view.set]{q} fs) ⊢ pay m ρ c k₁ r₁ 0)
    (hpay₂ : iprop((dst.view.loc (t : Thread nD τ) ↦[dst.view.set]{fullShare} (dst.view.write (Elt F) fd (src.view.read (Elt F) fs) Finset.univ)) ∗ G)
      ⊢ pay m ρ t k₂ r₂ 0)
    {α : Type} {Q : α → sProp 𝕄} {k' : PUnit → Prog (TpuEff nD τ sig (Elt F) Λ₀ .tc) α} :
    iprop(records m ρ K ∗ (src.view.loc (c : Thread nD τ) ↦[src.view.set]{q} fs) ∗ ((dst.view.loc (t : Thread nD τ) ↦[dst.view.set]{fullShare} fd) ∗ G)
        ∗ ow c n ∗ tok c k₁ r₁ 0 ∗ reached ER (kcell (c, k₁)) r₁ ∗ tok t k₂ r₂ 0 ∗ reached ER (kcell (t, k₂)) r₂)
      ⊢ iprop(((cred (tallyAt (kcell (c, k₁)) 0 a) ∗ ow c (n + 1)) -∗ WP c (k' ⟨⟩) Q)
          -∗ WP c (.op (.enqueueDma src (.remote (Dev.tc n' : Thread nD τ) dst sS hsc) sem hsrc hdst hsem) k') Q) := by
  subst hn' h₁ h₂
  unfold ow
  iintro ⟨#HR, Hsrc, Hdst, ⟨%W, HO⟩, Ht₁, #Hre₁, Ht₂, #Hre₂⟩ Hk
  ihave HI₁ := (record_at m ρ K (c, k₁)) $$ HR
  icases HI₁ with ⟨#HI₁, -⟩
  ihave HI₂ := (record_at m ρ K (n', k₂)) $$ HR
  icases HI₂ with ⟨#HI₂, -⟩
  iapply (Rounds.wp_send_pointsTo_with 𝒱₀ ER (ringRd m ρ) (c : Thread nD τ) none (c' := (n' : Thread nD τ)) (κ₁ := K (c, k₁)) (κ₂ := K (n', k₂))
    (r₁ := r₁) (r₂ := r₂) (d₁ := 0) (d₂ := 0) (fd := fd) (F := G) (fs := fs) (q := q) (src := src) (dst := dst)
    (by rw [duties_at, if_pos hr₁]; exact hd₁) (by rw [duties_at, if_pos hr₂]; exact hd₂)
    i 0 a hN ((amount_at m ρ c k₁ r₁ 0).trans ha₁) ((amount_at m ρ n' k₂ r₂ 0).trans ha₂) (owed (n + 1) c) hO (W := W)
    (by rw [payload_at]; exact hpay₁) (by rw [payload_at]; exact hpay₂)) $$ [HO Hsrc Hdst Ht₁ Ht₂]
  · isplitr; · iexact HI₁
    isplitr; · iexact HI₂
    isplitl [Hsrc]; · iexact Hsrc
    isplitl [Hdst]; · iexact Hdst
    isplitl [HO]; · iexact HO
    isplitl [Ht₁]; · iexact Ht₁
    isplitr; · iexact Hre₁
    isplitl [Ht₂]; · iexact Ht₂
    iexact Hre₂
  iintro ⟨HC, HO⟩
  iapply Hk
  isplitl [HC]; · iexact HC
  iexists W; iexact HO

/-- A wait for the whole of round `r` of its cell `k`, at level `i`, `n` payments made. -/
theorem step_wait (c : Dev nD) (k : Fin 14) (n r i : ℕ) {w : TpuEff nD τ sig (Elt F) Λ₀ .tc PUnit} {sm : SemLoc sig} {a : ℕ}
    (hw : ∀ P : PUnit → sProp 𝕄, wpE (defs₀ (F := F)) 𝒱₀ (c : Thread nD τ) none Set.univ w P = waitSpec (c : Thread nD τ) Set.univ sm a P)
    (hs : sm = csem k) (he : a = (ringRd (F := F) m ρ).expect (kcell (c, k)) r)
    (hi : i < 9) (hn : ∀ p ∈ pmts.drop n, i < p.level ∧ p.level < 9)
    {P : sProp 𝕄} (hP : bigSep ((ringRd (F := F) m ρ).duties (kcell (c, k)) r \ ∅) (fun d => (ringRd (F := F) m ρ).payload (kcell (c, k)) r d) = P)
    {α : Type} {Q : α → sProp 𝕄} {k' : PUnit → Prog (TpuEff nD τ sig (Elt F) Λ₀ .tc) α} :
    iprop(records m ρ K ∗ levAts L lv ∗ cred (tallyAt (kcell (c, k)) i a) ∗ ow c n ∗ pos c k r)
      ⊢ iprop(((ow c n ∗ pos c k (r + 1) ∗ reached ER (kcell (c, k)) (r + 1) ∗ P) -∗ WP c (k' ⟨⟩) Q) -∗ WP c (.op w k') Q) := by
  subst hs hP
  unfold ow
  iintro ⟨#HR, #HL, HC, ⟨%W, HO⟩, Hat⟩ Hk
  ihave HI := (record_at m ρ K (c, k)) $$ HR
  icases HI with ⟨#HI, -⟩
  iapply (Rounds.wp_wait_rest_token 𝒱₀ ER (ringRd m ρ) (c : Thread nD τ) none (κ := K (c, k)) hw (Set.mem_univ _) i (O := owed n c) (W := W) (R := r) (m := 0) (T := ∅)
      (by rw [Nat.zero_add]; exact he)) $$ [HC HO Hat]
  · isplitr; · iexact HI
    isplitl [HC]; · iexact HC
    isplitl [HO]; · iexact HO
    isplitr; · iapply (mayWait i n hi hn c (csem k)); iexact HL
    iexact Hat
  iintro ⟨HO, Hat, Hre, Hp⟩
  iapply Hk
  isplitl [HO]; · iexists _; iexact HO
  isplitl [Hat]; · iexact Hat
  isplitl [Hre]; · iexact Hre
  iexact Hp

/-- After its last round a cell's counter reads zero and is the device's. -/
theorem step_close (c : Dev nD) (k : Fin 14) (r : ℕ) (hr : rds k ≤ r) :
    iprop(records m ρ K ∗ pos c k r) ⊢ iprop(|={Set.univ}=> semVal (kcell (c, k)) 0) := by
  iintro ⟨#HR, Hat⟩
  ihave HI := (record_at m ρ K (c, k)) $$ HR
  icases HI with ⟨#HI, -⟩
  iapply (Rounds.cell_close ER (ringRd m ρ) (Set.mem_univ (K (c, k))) (fun h => h) (R := r) (fun r' h => duties_later m ρ c k r' (hr.trans h)))
  isplitr; · iexact HI
  iexact Hat

end Body

/-! ## The halves of the communication buffer -/

/-- A half as the loads and stores see it. -/
def up (X : FVec F S1024x2048 .f32) : FVec F S1x1024x2048 .f32 := shapeCast S1x1024x2048 X rfl

omit [FloatOps F] in
theorem down_up (X : FVec F S1024x2048 .f32) (h : S1x1024x2048.ShapeCasts S1024x2048) : shapeCast S1024x2048 (up X) h = X := by
  unfold up; exact shapeCast_shapeCast X _ _

omit [FloatOps F] in
theorem read0 (f : (cc0_scratch0 : Ref sig .tc).ty.Contents (Elt F)) :
    (cM.access r0 : View sig .tc _ _ _).read (Elt F) f = up (sl0.view.read (Elt F) f) := by
  unfold up
  exact (shapeCast_shapeCast ((cM.access r0 : View sig .tc _ _ _).read (Elt F) f) (t := S1024x2048) rfl rfl).symm
omit [FloatOps F] in
theorem read1 (f : (cc0_scratch0 : Ref sig .tc).ty.Contents (Elt F)) :
    (cM.access r1 : View sig .tc _ _ _).read (Elt F) f = up (sl1.view.read (Elt F) f) := by
  unfold up
  exact (shapeCast_shapeCast ((cM.access r1 : View sig .tc _ _ _).read (Elt F) f) (t := S1024x2048) rfl rfl).symm
omit [FloatOps F] in
theorem write0 (f : (cc0_scratch0 : Ref sig .tc).ty.Contents (Elt F)) (X : FVec F S1024x2048 .f32) :
    sl0.view.read (Elt F) ((cM.access r0 : View sig .tc _ _ _).write (Elt F) f (up X) Finset.univ) = X := by
  have h : shapeCast S1024x2048 ((cM.access r0 : View sig .tc _ _ _).read (Elt F) ((cM.access r0 : View sig .tc _ _ _).write (Elt F) f (up X) Finset.univ)) rfl = X := by
    rw [View.read_write_univ]; exact down_up X rfl
  exact h
omit [FloatOps F] in
theorem write1 (f : (cc0_scratch0 : Ref sig .tc).ty.Contents (Elt F)) (X : FVec F S1024x2048 .f32) :
    sl1.view.read (Elt F) ((cM.access r1 : View sig .tc _ _ _).write (Elt F) f (up X) Finset.univ) = X := by
  have h : shapeCast S1024x2048 ((cM.access r1 : View sig .tc _ _ _).read (Elt F) ((cM.access r1 : View sig .tc _ _ _).write (Elt F) f (up X) Finset.univ)) rfl = X := by
    rw [View.read_write_univ]; exact down_up X rfl
  exact h

theorem set0 : sl0.view.set = (cM.access r0 : View sig .tc _ _ _).set := View.set_reshape _ _
theorem set1 : sl1.view.set = (cM.access r1 : View sig .tc _ _ _).set := View.set_reshape _ _

section Halves
variable (c : Dev nD)

omit [FloatOps F] in
theorem free_of_own0 (X : FVec F S1024x2048 .f32) : own0 c X ⊢ (free0 c : sProp 𝕄) := by
  unfold own0 free0
  iintro ⟨%f, -, H⟩
  iexists f; iexact H
omit [FloatOps F] in
theorem free_of_own1 (X : FVec F S1024x2048 .f32) : own1 c X ⊢ (free1 c : sProp 𝕄) := by
  unfold own1 free1
  iintro ⟨%f, -, H⟩
  iexists f; iexact H

theorem load0 {α : Type} (X : FVec F S1024x2048 .f32) {hl : cM.view.LoadsAt r0.toLoadRect} {k : Vec F S1x1024x2048 .f32 → Prog (TpuEff nD τ sig (Elt F) Λ₀ .tc) α} {Q : α → sProp 𝕄} :
    own0 c X ⊢ iprop((own0 c X -∗ WP c (k (up X)) Q) -∗ WP c (.op (TpuEff.load cM r0.toLoadRect hl) k) Q) := by
  unfold own0
  iintro ⟨%f, %hf, H⟩ Hk
  iapply (wp_load_rect 𝒱₀ (c : Thread nD τ) none Set.univ (m := cM) (r := r0) (S := sl0.view.set) (q := fullShare) (f := f) (by rw [set0])) $$ H
  iintro H
  rw [read0, hf]
  iapply Hk
  iexists f
  isplitr; · (ipureintro; exact hf)
  iexact H
theorem load1 {α : Type} (X : FVec F S1024x2048 .f32) {hl : cM.view.LoadsAt r1.toLoadRect} {k : Vec F S1x1024x2048 .f32 → Prog (TpuEff nD τ sig (Elt F) Λ₀ .tc) α} {Q : α → sProp 𝕄} :
    own1 c X ⊢ iprop((own1 c X -∗ WP c (k (up X)) Q) -∗ WP c (.op (.load cM r1.toLoadRect hl) k) Q) := by
  unfold own1
  iintro ⟨%f, %hf, H⟩ Hk
  iapply (wp_load_rect 𝒱₀ (c : Thread nD τ) none Set.univ (m := cM) (r := r1) (S := sl1.view.set) (q := fullShare) (f := f) (by rw [set1])) $$ H
  iintro H
  rw [read1, hf]
  iapply Hk
  iexists f
  isplitr; · (ipureintro; exact hf)
  iexact H
theorem store0 {α : Type} (X : FVec F S1024x2048 .f32) {w : FVec F S1x1024x2048 .f32} (hw : w = up X) {hx : (cM.access r0 : View sig .tc _ _ _).Stores Finset.univ} {hm : Finset.univ = Finset.univ ∨ ∀ a, r0.stride a = 1}
    {k : PUnit → Prog (TpuEff nD τ sig (Elt F) Λ₀ .tc) α} {Q : α → sProp 𝕄} :
    free0 c ⊢ iprop((own0 c X -∗ WP c (k ⟨⟩) Q) -∗ WP c (.op (.store cM r0 w Finset.univ hx hm) k) Q) := by
  subst hw
  unfold own0 free0
  iintro ⟨%f, H⟩ Hk
  iapply (wp_store 𝒱₀ (c : Thread nD τ) none Set.univ (m := cM) (r := r0) (Mk := Finset.univ) (S := sl0.view.set) (f := f) (by rw [set0, View.setOn_univ])) $$ H
  iintro H
  iapply Hk
  iexists _
  isplitr
  · ipureintro; exact write0 f X
  iexact H
theorem store1 {α : Type} (X : FVec F S1024x2048 .f32) {w : FVec F S1x1024x2048 .f32} (hw : w = up X) {hx : (cM.access r1 : View sig .tc _ _ _).Stores Finset.univ} {hm : Finset.univ = Finset.univ ∨ ∀ a, r1.stride a = 1}
    {k : PUnit → Prog (TpuEff nD τ sig (Elt F) Λ₀ .tc) α} {Q : α → sProp 𝕄} :
    free1 c ⊢ iprop((own1 c X -∗ WP c (k ⟨⟩) Q) -∗ WP c (.op (.store cM r1 w Finset.univ hx hm) k) Q) := by
  subst hw
  unfold own1 free1
  iintro ⟨%f, H⟩ Hk
  iapply (wp_store 𝒱₀ (c : Thread nD τ) none Set.univ (m := cM) (r := r1) (Mk := Finset.univ) (S := sl1.view.set) (f := f) (by rw [set1, View.setOn_univ])) $$ H
  iintro H
  iapply Hk
  iexists _
  isplitr
  · ipureintro; exact write1 f X
  iexact H

end Halves

end Cert.KernelIdeal.RingProof

end
-- ==== Proof.Rows.lean ====
/-
The two halves of the communication buffer and the four rows of the buffer of maxima: taking a whole buffer apart,
putting it together, and the accesses to a row.
-/
module

public import proofs.«01_k».proof.Proof.Steps
public import Idealize.ShloMosaic.Lib.Pipeline.Value

@[expose] public section

noncomputable section

namespace Cert.KernelIdeal.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## Which elements a half, a row covers -/

theorem sl0_set : (sl0 : Memref sig .tc .vmem S1024x2048 .f32).view.set = r0.set := (View.set_reshape _ _).trans (View.set_slice_whole _ _)
theorem sl1_set : (sl1 : Memref sig .tc .vmem S1024x2048 .f32).view.set = r1.set := (View.set_reshape _ _).trans (View.set_slice_whole _ _)
theorem aRow_set (j : Dev nD) : (aRow j).view.set = (rRow j).set := (View.set_reshape _ _).trans (View.set_slice_whole _ _)

theorem halves_disjoint : Disjoint (sl0 : Memref sig .tc .vmem S1024x2048 .f32).view.set (sl1 : Memref sig .tc .vmem S1024x2048 .f32).view.set := by
  rw [sl0_set, sl1_set]
  exact Rect.unit_disjoint (0 : Fin 3) (Or.inl (by decide))

theorem halves_cover : (sl0 : Memref sig .tc .vmem S1024x2048 .f32).view.set ∪ (sl1 : Memref sig .tc .vmem S1024x2048 .f32).view.set = Finset.univ := by
  rw [sl0_set, sl1_set]
  refine Finset.eq_univ_iff_forall.mpr fun i => ?_
  rw [Finset.mem_union, Rect.mem_set_unit, Rect.mem_set_unit]
  have h0 : (i (0 : Fin 3)).val < 2 := (i (0 : Fin 3)).isLt
  have h1 : (i (1 : Fin 3)).val < 1024 := (i (1 : Fin 3)).isLt
  have h2 : (i (2 : Fin 3)).val < 2048 := (i (2 : Fin 3)).isLt
  rcases Nat.lt_or_ge (i (0 : Fin 3)).val 1 with h | h
  · left
    intro a
    fin_cases a
    · exact ⟨Nat.zero_le _, h⟩
    · exact ⟨Nat.zero_le _, lt_of_lt_of_eq h1 (Nat.zero_add _).symm⟩
    · exact ⟨Nat.zero_le _, lt_of_lt_of_eq h2 (Nat.zero_add _).symm⟩
  · right
    intro a
    fin_cases a
    · exact ⟨h, h0⟩
    · exact ⟨Nat.zero_le _, lt_of_lt_of_eq h1 (Nat.zero_add _).symm⟩
    · exact ⟨Nat.zero_le _, lt_of_lt_of_eq h2 (Nat.zero_add _).symm⟩

theorem mem_aRow (j : Dev nD) (i : (cc0_scratch2 : Ref sig .tc).ty.Idx) : i ∈ (aRow j).view.set ↔ (i (0 : Fin 3)).val = j.val := by
  rw [aRow_set, Rect.mem_set_unit]
  have h0 : (i (0 : Fin 3)).val < 4 := (i (0 : Fin 3)).isLt
  have h1 : (i (1 : Fin 3)).val < 8 := (i (1 : Fin 3)).isLt
  have h2 : (i (2 : Fin 3)).val < 128 := (i (2 : Fin 3)).isLt
  rw [k0_off5_eq]
  constructor
  · intro h
    have h' : j.val ≤ (i (0 : Fin 3)).val ∧ (i (0 : Fin 3)).val < j.val + 1 := h 0
    omega
  · intro h a
    fin_cases a
    · show j.val ≤ (i (0 : Fin 3)).val ∧ (i (0 : Fin 3)).val < j.val + 1
      omega
    · exact ⟨Nat.zero_le _, lt_of_lt_of_eq h1 (Nat.zero_add _).symm⟩
    · exact ⟨Nat.zero_le _, lt_of_lt_of_eq h2 (Nat.zero_add _).symm⟩

theorem rRow_eq (j : Dev nD) : rRow' j = rRow j := Rect.unit_congr ((k0_off3_eq j).trans (k0_off5_eq j).symm) _ _

section
variable (c : Dev nD)

omit [FloatOps F] in
theorem split_comm (f : Buf (Elt F) ((c : Thread nD τ).loc cc0_scratch0)) :
    ((c : Thread nD τ).loc cc0_scratch0 ↦{fullShare} f) ⊢ (iprop(free0 c ∗ free1 c) : sProp 𝕄) := by
  refine (Entails.of_eq (by rw [← halves_cover])).trans ((pointsTo_union halves_disjoint).1.trans ?_)
  unfold free0 free1
  iintro ⟨H0, H1⟩
  isplitl [H0]
  · iexists f; iexact H0
  · iexists f; iexact H1

omit [FloatOps F] in
theorem join_comm : (iprop(free0 c ∗ free1 c) : sProp 𝕄) ⊢ iprop(∃ f : Buf (Elt F) ((c : Thread nD τ).loc cc0_scratch0), (c : Thread nD τ).loc cc0_scratch0 ↦{fullShare} f) := by
  unfold free0 free1
  iintro ⟨⟨%f, H0⟩, ⟨%g, H1⟩⟩
  iexists (sl1 : Memref sig .tc .vmem S1024x2048 .f32).view.set.piecewise g f
  rw [← halves_cover]
  iapply (pointsTo_join halves_disjoint)
  isplitl [H0] <;> iassumption

/-- The rows, counted from device `c`'s own. -/
def rowSet (k : Fin 4) : Finset (cc0_scratch2 : Ref sig .tc).ty.Idx := (aRow (peer c k.val)).view.set

theorem rows_disjoint : ∀ k ∈ (Finset.univ : Finset (Fin 4)), ∀ l ∈ (Finset.univ : Finset (Fin 4)), k ≠ l →
    Disjoint (rowSet c k) (rowSet c l) := by
  intro k _ l _ h
  unfold rowSet
  rw [Finset.disjoint_left]
  intro i hi hj
  rw [mem_aRow] at hi hj
  have : (c.val + k.val) % 4 = (c.val + l.val) % 4 := hi.symm.trans hj
  have hk := k.isLt; have hl := l.isLt
  exact h (Fin.ext (by omega))

theorem rows_cover : (Finset.univ : Finset (Fin 4)).biUnion (rowSet c) = Finset.univ := by
  refine Finset.eq_univ_iff_forall.mpr fun i => Finset.mem_biUnion.mpr ?_
  have h0 : (i (0 : Fin 3)).val < 4 := (i (0 : Fin 3)).isLt
  have hc : c.val < 4 := c.isLt
  refine ⟨⟨((i (0 : Fin 3)).val + 4 - c.val) % 4, Nat.mod_lt _ (by decide)⟩, Finset.mem_univ _, ?_⟩
  unfold rowSet
  rw [mem_aRow]
  show _ = (c.val + ((i (0 : Fin 3)).val + 4 - c.val) % 4) % 4
  omega

omit [FloatOps F] in
theorem rows_eq (f : Buf (Elt F) ((c : Thread nD τ).loc cc0_scratch2)) :
    ((c : Thread nD τ).loc cc0_scratch2 ↦{fullShare} f : sProp 𝕄)
      = iprop(((aRow (peer c 0)).view.loc (c : Thread nD τ) ↦[(aRow (peer c 0)).view.set]{fullShare} f) ∗ ((aRow (peer c 1)).view.loc (c : Thread nD τ) ↦[(aRow (peer c 1)).view.set]{fullShare} f)
        ∗ ((aRow (peer c 2)).view.loc (c : Thread nD τ) ↦[(aRow (peer c 2)).view.set]{fullShare} f) ∗ ((aRow (peer c 3)).view.loc (c : Thread nD τ) ↦[(aRow (peer c 3)).view.set]{fullShare} f)) := by
  have h := pointsTo_biUnion (ℓ := (c : Thread nD τ).loc cc0_scratch2) (q := fullShare) (f := f) Finset.univ (rowSet c) (rows_disjoint c)
    (Ix := ℕ) (Name := ℕ) (U := UU) (Lvl := ℕ)
  rw [rows_cover] at h
  refine h.trans ?_
  rw [bigSep_univ_eq_bigSepL [(0 : Fin 4), 1, 2, 3] (by decide) (by decide)]
  simp only [bigSepL_cons_cons, bigSepL_singleton]
  rfl

theorem peer_zero : peer c 0 = c := Fin.ext (Nat.mod_eq_of_lt c.isLt)

omit [FloatOps F] in
theorem split_rows (f : Buf (Elt F) ((c : Thread nD τ).loc cc0_scratch2)) :
    ((c : Thread nD τ).loc cc0_scratch2 ↦{fullShare} f) ⊢ (iprop(freeRow c c ∗ freeRow c (peer c 1) ∗ freeRow c (peer c 2) ∗ freeRow c (peer c 3)) : sProp 𝕄) := by
  rw [rows_eq, peer_zero]
  unfold freeRow
  iintro ⟨H0, H1, H2, H3⟩
  isplitl [H0]; · iexists f; iexact H0
  isplitl [H1]; · iexists f; iexact H1
  isplitl [H2]; · iexists f; iexact H2
  iexists f; iexact H3

theorem join_rows : (iprop(rowPts m ρ c c fullShare ∗ rowPts m ρ c (peer c 1) fullShare ∗ rowPts m ρ c (peer c 2) fullShare ∗ rowPts m ρ c (peer c 3) fullShare) : sProp 𝕄)
    ⊢ ((c : Thread nD τ).loc cc0_scratch2 ↦{fullShare} amAll m ρ) := by
  rw [rows_eq, peer_zero]
  unfold rowPts
  exact Entails.refl _

theorem split_row : rowPts m ρ c c fullShare ⊢ (iprop(rowPts m ρ c c (qs 0) ∗ rowPts m ρ c c (qs 1) ∗ rowPts m ρ c c (qs 2)) : sProp 𝕄) :=
  (pointsTo_share (PosShare.mem_left_op_right fullShare)).1.trans (sep_mono_right (pointsTo_share (PosShare.mem_left_op_right fullShare.right)).1)
theorem join_row : (iprop(rowPts m ρ c c (qs 0) ∗ rowPts m ρ c c (qs 1) ∗ rowPts m ρ c c (qs 2)) : sProp 𝕄) ⊢ rowPts m ρ c c fullShare :=
  (sep_mono_right (pointsTo_share (PosShare.mem_left_op_right fullShare.right)).2).trans (pointsTo_share (PosShare.mem_left_op_right fullShare)).2

theorem row_access : (aM.access (rRow' c) : View sig .tc _ _ _).set = (aRow c).view.set := by
  rw [aRow_set, rRow_eq]; exact View.set_slice_whole _ _

/-- The maximum is the same in every place of the row. -/
theorem rowAt_const (j : Dev nD) (x y : S1x8x128.Idx) : rowAt m ρ j x = rowAt m ρ j y := rfl

theorem row_read : (aM.access (rRow' c) : View sig .tc _ _ _).read (Elt F) (amAll m ρ) = rowAt m ρ c := by
  funext x
  have hm : (rRow' c).emb x ∈ (rRow' c).set := (rRow' c).map_emb_univ ▸ Finset.mem_map_of_mem _ (Finset.mem_univ x)
  rw [show (rRow' c).set = (aRow c).view.set from by rw [rRow_eq, aRow_set]] at hm
  have hx : (((rRow' c).emb x (0 : Fin 3)).val) = c.val := (mem_aRow c ((rRow' c).emb x)).mp hm
  have hr : (aM.access (rRow' c) : View sig .tc _ _ _).read (Elt F) (amAll m ρ) x = (aM : Memref sig .tc .vmem S4x8x128 .f32).view.read (Elt F) (amAll m ρ) ((rRow' c).emb x) := rfl
  refine (hr.trans (congrFun (View.read_whole cc0_scratch2 (amAll m ρ)) ((rRow' c).emb x))).trans ?_
  unfold amAll
  rw [show (Fin.cast rfl ((rRow' c).emb x (0 : Fin 3)) : Fin 4) = c from Fin.ext hx]
  exact rowAt_const m ρ c _ x

theorem row_written (f : (cc0_scratch2 : Ref sig .tc).ty.Contents (Elt F)) (i : (cc0_scratch2 : Ref sig .tc).ty.Idx) (hi : i ∈ (aRow c).view.set) :
    (aM.access (rRow' c) : View sig .tc _ _ _).write (Elt F) f (rowAt m ρ c) Finset.univ i = amAll m ρ i := by
  rw [← row_read, View.write_read_eq_piecewise, View.setOn_univ, row_access]
  exact Finset.piecewise_eq_of_mem _ _ _ hi

theorem load_row {α : Type} {hl : aM.view.LoadsAt (rRow' c).toLoadRect} {k : Vec F S1x8x128 .f32 → Prog (TpuEff nD τ sig (Elt F) Λ₀ .tc) α} {Q : α → sProp 𝕄} :
    freeRow c c ⊢ iprop((∀ v, freeRow c c -∗ WP c (k v) Q) -∗ WP c (.op (TpuEff.load aM (rRow' c).toLoadRect hl) k) Q) := by
  unfold freeRow
  iintro ⟨%f, H⟩ Hk
  iapply (wp_load_rect 𝒱₀ (c : Thread nD τ) none Set.univ (m := aM) (r := rRow' c) (S := (aRow c).view.set) (q := fullShare) (f := f) (by rw [row_access])) $$ H
  iintro H
  iapply Hk
  iexists f; iexact H

theorem store_row {α : Type} {w : FVec F S1x8x128 .f32} (hw : w = rowAt m ρ c) {hx : (aM.access (rRow' c) : View sig .tc _ _ _).Stores Finset.univ}
    {hm : Finset.univ = Finset.univ ∨ ∀ a, (rRow' c).stride a = 1} {k : PUnit → Prog (TpuEff nD τ sig (Elt F) Λ₀ .tc) α} {Q : α → sProp 𝕄} :
    freeRow c c ⊢ iprop((rowPts m ρ c c fullShare -∗ WP c (k ⟨⟩) Q) -∗ WP c (.op (.store aM (rRow' c) w Finset.univ hx hm) k) Q) := by
  subst hw
  unfold freeRow
  iintro ⟨%f, H⟩ Hk
  iapply (wp_store 𝒱₀ (c : Thread nD τ) none Set.univ (m := aM) (r := rRow' c) (Mk := Finset.univ) (S := (aRow c).view.set) (f := f) (by rw [View.setOn_univ, row_access])) $$ H
  iintro H
  iapply Hk
  unfold rowPts
  iapply (Entails.of_eq (pointsTo_congr (row_written m ρ c f))) $$ H

/-- A row copied is the row. -/
theorem row_landed (t j : Dev nD) (fd : Buf (Elt F) ((aRow j).view.loc (t : Thread nD τ))) :
    (((aRow j).view.loc (t : Thread nD τ) ↦[(aRow j).view.set]{fullShare} ((aRow j).view.write (Elt F) fd ((aRow j).view.read (Elt F) (amAll m ρ)) Finset.univ)) : sProp 𝕄)
      ⊢ rowPts m ρ t j fullShare := by
  unfold rowPts
  refine Entails.of_eq (pointsTo_congr fun i hi => ?_)
  rw [View.write_read_eq_piecewise, View.setOn_univ]
  exact Finset.piecewise_eq_of_mem _ _ _ hi

end

end Cert.KernelIdeal.RingProof

end
-- ==== Proof.Body.lean ====
/-
The body of the kernel on one device, up to the last step of the reduction: the part before the maxima are exchanged.
-/
module

public import proofs.«01_k».proof.Proof.Rows
public import Idealize.ShloMosaic.Lib.Pipeline.Value

@[expose] public section

noncomputable section

namespace Cert.KernelIdeal.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## The staged operands and the partial sums -/

abbrev xP (c : Dev nD) : sProp 𝕄 := (c : Thread nD τ).loc cc0_stg0_0 ↦{fullShare} xstg m ρ c
abbrev wP (c : Dev nD) : sProp 𝕄 := (c : Thread nD τ).loc cc0_stg1_0 ↦{fullShare} wstg m ρ c
abbrev pP (c : Dev nD) (X : FVec F S1024x2048 .f32) : sProp 𝕄 := (c : Thread nD τ).loc cc0_scratch1 ↦{fullShare} X
abbrev oP (c : Dev nD) (X : FVec F S1024x2048 .f32) : sProp 𝕄 := (c : Thread nD τ).loc cc0_stg2_0 ↦{fullShare} X

abbrev rW : Rect S1024x2048 := Rect.unit (s := S1024x2048) ![0, 0] S1024x2048.size inb_S1024x2048_S1024x2048_0_0

omit [FloatOps F] in
theorem hz : (![0, 0] : Fin 2 → Nat) = fun _ => 0 := funext fun a => by fin_cases a <;> rfl
omit [FloatOps F] in
theorem read_w (f : (cc0_stg1_0 : Ref sig .tc).ty.Contents (Elt F)) : (wM : Memref sig .tc .vmem S1024x2048 .f32).view.readAt (Elt F) rW.toLoadRect f = f :=
  Memref.readAt_unit_zero (Elt F) cc0_stg1_0 hz _ f
omit [FloatOps F] in
theorem read_p (f : (cc0_scratch1 : Ref sig .tc).ty.Contents (Elt F)) : (pM : Memref sig .tc .vmem S1024x2048 .f32).view.readAt (Elt F) rW.toLoadRect f = f :=
  Memref.readAt_unit_zero (Elt F) cc0_scratch1 hz _ f
omit [FloatOps F] in
theorem read_o (f : (cc0_stg2_0 : Ref sig .tc).ty.Contents (Elt F)) : (oM : Memref sig .tc .vmem S1024x2048 .f32).view.readAt (Elt F) rW.toLoadRect f = f :=
  Memref.readAt_unit_zero (Elt F) cc0_stg2_0 hz _ f
omit [FloatOps F] in
theorem write_p (f w : (cc0_scratch1 : Ref sig .tc).ty.Contents (Elt F)) :
    ((pM : Memref sig .tc .vmem S1024x2048 .f32).access rW : View sig .tc _ _ _).write (Elt F) f w Finset.univ = w :=
  Memref.write_access_unit_zero_univ (Elt F) cc0_scratch1 hz _ f w
omit [FloatOps F] in
theorem write_o (f w : (cc0_stg2_0 : Ref sig .tc).ty.Contents (Elt F)) :
    ((oM : Memref sig .tc .vmem S1024x2048 .f32).access rW : View sig .tc _ _ _).write (Elt F) f w Finset.univ = w :=
  Memref.write_access_unit_zero_univ (Elt F) cc0_stg2_0 hz _ f w

section Loads
variable (c : Dev nD)

theorem load_w {α : Type} (X : FVec F S1024x2048 .f32) {hl : wM.view.LoadsAt rW.toLoadRect} {k : Vec F S1024x2048 .f32 → Prog (TpuEff nD τ sig (Elt F) Λ₀ .tc) α} {Q : α → sProp 𝕄} :
    ((c : Thread nD τ).loc cc0_stg1_0 ↦{fullShare} X) ⊢ iprop((((c : Thread nD τ).loc cc0_stg1_0 ↦{fullShare} X) -∗ WP c (k X) Q) -∗ WP c (.op (TpuEff.load wM rW.toLoadRect hl) k) Q) := by
  iintro H Hk
  iapply (wp_load 𝒱₀ (c : Thread nD τ) none Set.univ (m := wM) (Finset.subset_univ _)) $$ H
  iintro H
  rw [read_w]
  iapply Hk
  iexact H
theorem load_p {α : Type} (X : FVec F S1024x2048 .f32) {hl : pM.view.LoadsAt rW.toLoadRect} {k : Vec F S1024x2048 .f32 → Prog (TpuEff nD τ sig (Elt F) Λ₀ .tc) α} {Q : α → sProp 𝕄} :
    pP c X ⊢ iprop((pP c X -∗ WP c (k X) Q) -∗ WP c (.op (TpuEff.load pM rW.toLoadRect hl) k) Q) := by
  iintro H Hk
  iapply (wp_load 𝒱₀ (c : Thread nD τ) none Set.univ (m := pM) (Finset.subset_univ _)) $$ H
  iintro H
  rw [read_p]
  iapply Hk
  iexact H
theorem load_o {α : Type} (X : FVec F S1024x2048 .f32) {hl : oM.view.LoadsAt rW.toLoadRect} {k : Vec F S1024x2048 .f32 → Prog (TpuEff nD τ sig (Elt F) Λ₀ .tc) α} {Q : α → sProp 𝕄} :
    oP c X ⊢ iprop((oP c X -∗ WP c (k X) Q) -∗ WP c (.op (TpuEff.load oM rW.toLoadRect hl) k) Q) := by
  iintro H Hk
  iapply (wp_load 𝒱₀ (c : Thread nD τ) none Set.univ (m := oM) (Finset.subset_univ _)) $$ H
  iintro H
  rw [read_o]
  iapply Hk
  iexact H
theorem store_p {α : Type} (X Y : FVec F S1024x2048 .f32) {w : FVec F S1024x2048 .f32} (hw : w = Y) {hx : (pM.access rW : View sig .tc _ _ _).Stores Finset.univ}
    {hm : Finset.univ = Finset.univ ∨ ∀ a, rW.stride a = 1} {k : PUnit → Prog (TpuEff nD τ sig (Elt F) Λ₀ .tc) α} {Q : α → sProp 𝕄} :
    pP c X ⊢ iprop((pP c Y -∗ WP c (k ⟨⟩) Q) -∗ WP c (.op (.store pM rW w Finset.univ hx hm) k) Q) := by
  subst hw
  iintro H Hk
  iapply (wp_store 𝒱₀ (c : Thread nD τ) none Set.univ (m := pM) (r := rW) (Mk := Finset.univ) (Finset.subset_univ _)) $$ H
  iintro H
  rw [write_p]
  iapply Hk
  iexact H
theorem store_o {α : Type} (X Y : FVec F S1024x2048 .f32) {w : FVec F S1024x2048 .f32} (hw : w = Y) {hx : (oM.access rW : View sig .tc _ _ _).Stores Finset.univ}
    {hm : Finset.univ = Finset.univ ∨ ∀ a, rW.stride a = 1} {k : PUnit → Prog (TpuEff nD τ sig (Elt F) Λ₀ .tc) α} {Q : α → sProp 𝕄} :
    oP c X ⊢ iprop((oP c Y -∗ WP c (k ⟨⟩) Q) -∗ WP c (.op (.store oM rW w Finset.univ hx hm) k) Q) := by
  subst hw
  iintro H Hk
  iapply (wp_store 𝒱₀ (c : Thread nD τ) none Set.univ (m := oM) (r := rW) (Mk := Finset.univ) (Finset.subset_univ _)) $$ H
  iintro H
  rw [write_o]
  iapply Hk
  iexact H

omit [FloatOps F] in
theorem own_of_free0 : free0 c ⊢ (iprop(∃ X, own0 c X) : sProp 𝕄) := by
  unfold own0 free0
  iintro ⟨%f, H⟩
  iexists (sl0.view.read (Elt F) f), f
  isplitr; · (ipureintro; rfl)
  iexact H

end Loads

/-! ## What the kernel's stored values are -/

section Values
variable (c : Dev nD)

theorem stored1 (c : Dev nD) (off : Fin 2 → ℕ) (h : ∀ a, off a + S1024x1024.size a ≤ S4096x1024.size a) :
    k0_pay1 (xM.view.readAt (Elt F) (Rect.unit (s := S4096x1024) off S1024x1024.size h).toLoadRect (xstg m ρ c)) (wstg m ρ c) = up (dotAt m ρ c off h) := rfl
theorem stored3 (X : FVec F S1024x2048 .f32) : k0_pay3 X = X := shapeCast_self _ _
theorem stored5 (c : Dev nD) (off : Fin 2 → ℕ) (h : ∀ a, off a + S1024x1024.size a ≤ S4096x1024.size a) :
    k0_pay5 (xM.view.readAt (Elt F) (Rect.unit (s := S4096x1024) off S1024x1024.size h).toLoadRect (xstg m ρ c)) (wstg m ρ c) = dotAt m ρ c off h := shapeCast_self _ _
theorem stored7 (c : Dev nD) (off : Fin 2 → ℕ) (h : ∀ a, off a + S1024x1024.size a ≤ S4096x1024.size a) :
    k0_pay7 (xM.view.readAt (Elt F) (Rect.unit (s := S4096x1024) off S1024x1024.size h).toLoadRect (xstg m ρ c)) (wstg m ρ c) = dotAt m ρ c off h := shapeCast_self _ _
theorem stored4 (X P : FVec F S1024x2048 .f32) : k0_pay4 (up X) P = up (addf X P) := by
  unfold k0_pay4
  simp only [down_up, shapeCast_self]
  rfl
theorem stored6 (X P : FVec F S1024x2048 .f32) : k0_pay6 (up X) P = up (addf X P) := by
  unfold k0_pay6
  simp only [down_up, shapeCast_self]
  rfl
theorem stored8 (X P : FVec F S1024x2048 .f32) : k0_pay8 (up X) P = addf X P := by
  unfold k0_pay8
  simp only [down_up, shapeCast_self]

end Values

/-! ## The barrier's payloads -/

section Body
variable (K : Dev nD × Fin 14 → ℕ)

theorem pay_bar1 (c : Dev nD) : pay m ρ (peer c 1) 2 0 1 = (freeRow c (peer c 1) : sProp 𝕄) := by
  show barPay (peer c 1) 1 = _
  unfold barPay
  rw [if_neg (by decide), if_neg (by decide), peer_peer c 1 3 rfl]
theorem pay_bar2 (c : Dev nD) : pay m ρ (peer c 2) 2 0 2 = (freeRow c (peer c 2) : sProp 𝕄) := by
  show barPay (peer c 2) 2 = _
  unfold barPay
  rw [if_neg (by decide), if_pos rfl, peer_peer c 2 2 rfl]
theorem pay_bar3 (c : Dev nD) : pay m ρ (peer c 3) 2 0 3 = (iprop(freeRow c (peer c 3) ∗ free1 c) : sProp 𝕄) := by
  show barPay (peer c 3) 3 = _
  unfold barPay
  rw [if_pos rfl, peer_peer c 3 1 rfl]
theorem rest_bar (c : Dev nD) :
    bigSep ((ringRd (F := F) m ρ).duties (kcell (c, 2)) 0 \ ∅) (fun d => (ringRd (F := F) m ρ).payload (kcell (c, 2)) 0 d)
      = (iprop(freeRow (peer c 3) c ∗ freeRow (peer c 2) c ∗ freeRow (peer c 1) c ∗ free1 (nxt c)) : sProp 𝕄) :=
  (rest_three m ρ c 2 rfl).trans rfl

theorem rest_exit (c : Dev nD) :
    bigSep ((ringRd (F := F) m ρ).duties (kcell (c, 1)) 0 \ ∅) (fun d => (ringRd (F := F) m ρ).payload (kcell (c, 1)) 0 d)
      = (iprop(emp ∗ emp ∗ emp) : sProp 𝕄) :=
  (rest_three m ρ c 1 rfl).trans rfl

theorem one_duty (c : Dev nD) (k : Fin 14) (h1 : k ≠ 1) (h2 : k ≠ 2) (h3 : k ≠ arK c) : dutySet c k = {0} :=
  (if_neg fun h => h.elim h1 h2).trans (if_neg h3)
theorem ne_arK (c : Dev nD) (k : Fin 14) (h : k.val < 10) : k ≠ arK c := fun e => by
  have : k.val = 10 + c.val := congrArg Fin.val e
  omega

/-- The three duties of the barrier and of the exit semaphore. -/
theorem mem_three (c : Dev nD) (k : Fin 14) (h : k = 1 ∨ k = 2) (d : Fin 4) (hd : d ∈ ({1, 2, 3} : Finset (Fin 4))) : d ∈ dutySet c k := by
  unfold dutySet
  rw [if_pos h]
  exact hd

/-! ## The parts -/

/-- A body that returns is done. -/
theorem wp_done (c : Dev nD) {α : Type} (v : α) {Q : α → sProp 𝕄} : Q v ⊢ WP c (.ret v) Q := by
  show _ ⊢ wp _ _ _ _ _
  rw [wp_ret]
  exact fupd_intro

theorem body1 (c : Dev nD) (Q : (Σ' (d0 : Dev nD) (v2 : BitVec 32) (v4 : BitVec 32), BitVec 32) → sProp 𝕄) :
    iprop(records m ρ K ∗ levAts L lv ∗ ow c 0 ∗ tok (peer c 1) 2 0 1 ∗ tok (peer c 2) 2 0 2 ∗ tok (peer c 3) 2 0 3
        ∗ freeRow c (peer c 1) ∗ freeRow c (peer c 2) ∗ freeRow c (peer c 3) ∗ free1 c ∗ cred (tallyAt (kcell (c, 2)) 1 3) ∗ pos c 2 0)
      ⊢ iprop((∀ v2 v4 v7, (ow c 3 ∗ pos c 2 1 ∗ freeRow (peer c 1) c ∗ freeRow (peer c 2) c ∗ freeRow (peer c 3) c ∗ free1 (nxt c)) -∗ Q ⟨c, v2, v4, v7⟩)
        -∗ WP c (k0_part1_skel (F := F) xM (Memref.isWhole_whole _) wM (Memref.isWhole_whole _) oM (Memref.isWhole_whole _) cM (Memref.isWhole_whole _) pM (Memref.isWhole_whole _) aM (Memref.isWhole_whole _) cc0_scratch3 cc0_scratch4 cc0_scratch5 cc0_scratch6 cc0_scratch7 cc0_scratch8) Q) := by
  unfold k0_part1_skel
  simp only [semSignalWord, semWaitWord, Prog.lift, Prog.bind_op, Prog.bind_ret, Prog.pure_eq_ret, wp_deviceId]
  iintro ⟨#HR, #HL, HO, Ht1, Ht2, Ht3, Hr1, Hr2, Hr3, Hf1, Hc, Hat⟩ Hk
  ihave HR1 := (record_at m ρ K (peer c 1, 2)) $$ HR
  icases HR1 with ⟨-, #Hre1⟩
  ihave HR2 := (record_at m ρ K (peer c 2, 2)) $$ HR
  icases HR2 with ⟨-, #Hre2⟩
  ihave HR3 := (record_at m ρ K (peer c 3, 2)) $$ HR
  icases HR3 with ⟨-, #Hre3⟩
  iapply (step_signal m ρ K c (peer c 1) _ (dev1_eq c) 2 0 0 1 rfl 1 rfl rfl (by decide) (mem_three _ 2 (.inr rfl) _ (by decide))) $$ [HO Ht1 Hr1]
  · isplitr; · iexact HR
    isplitl [HO]; · iexact HO
    isplitl [Ht1]; · iexact Ht1
    isplitl [Hr1]; · rw [pay_bar1]; iexact Hr1
    iexact Hre1
  iintro HO
  iapply (step_signal m ρ K c (peer c 2) _ (dev2_eq c) 2 1 0 2 rfl 1 rfl rfl (by decide) (mem_three _ 2 (.inr rfl) _ (by decide))) $$ [HO Ht2 Hr2]
  · isplitr; · iexact HR
    isplitl [HO]; · iexact HO
    isplitl [Ht2]; · iexact Ht2
    isplitl [Hr2]; · rw [pay_bar2]; iexact Hr2
    iexact Hre2
  iintro HO
  iapply (step_signal m ρ K c (peer c 3) _ (dev3_eq c) 2 2 0 3 rfl 1 rfl rfl (by decide) (mem_three _ 2 (.inr rfl) _ (by decide))) $$ [HO Ht3 Hr3 Hf1]
  · isplitr; · iexact HR
    isplitl [HO]; · iexact HO
    isplitl [Ht3]; · iexact Ht3
    isplitl [Hr3 Hf1]
    · rw [pay_bar3]
      isplitl [Hr3] <;> iassumption
    iexact Hre3
  iintro HO
  iapply (step_wait m ρ K c 2 3 0 1 (wpE_semWait_eq 𝒱₀ (c : Thread nD τ) none Set.univ) rfl
    (by rw [expect_three m ρ c 2 rfl]; rfl) (by decide) (by simp [pmts]) (rest_bar m ρ c)) $$ [HO Hc Hat]
  · isplitr; · iexact HR
    isplitr; · iexact HL
    isplitl [Hc]; · iexact Hc
    isplitl [HO]; · iexact HO
    iexact Hat
  iintro ⟨HO, Hat, -, Hr3, Hr2, Hr1, Hf1⟩
  iapply (wp_done c _)
  iapply Hk
  isplitl [HO]; · iexact HO
  isplitl [Hat]; · iexact Hat
  isplitl [Hr1]; · iexact Hr1
  isplitl [Hr2]; · iexact Hr2
  isplitl [Hr3]; · iexact Hr3
  iexact Hf1

/-- A copy of the lower half to the upper half of the right neighbour: step 0 (round 0) and step 2 (round 1). -/
theorem send_lower (c n' : Dev nD) (hn' : n' = nxt c) (n r i : ℕ) (X : FVec F S1024x2048 .f32)
    (hX : pay m ρ (nxt c) 6 r 0 = (own1 (nxt c) X : sProp 𝕄)) (hr : r < 2)
    (hO : owed n c = owed (n + 1) c + tallyAt (kcell (nxt c, 6)) i N)
    {hsc : (sl1 : Memref sig .tc .vmem S1024x2048 .f32).view.ref.isScScratch = false} {sS sem : SemLoc sig} (h₁ : sS = csem 3) (h₂ : sem = csem 6)
    {hsrc : (sl0 : Memref sig .tc .vmem S1024x2048 .f32).view.WordExact} {hdst : (sl1 : Memref sig .tc .vmem S1024x2048 .f32).view.WordExact}
    {hsem : DmaTarget.Typed (nD := nD) (τ := τ) .vmem sem (.remote (Dev.tc n' : Thread nD τ) sl1 sS hsc)}
    {α : Type} {Q : α → sProp 𝕄} {k' : PUnit → Prog (TpuEff nD τ sig (Elt F) Λ₀ .tc) α} :
    iprop(records m ρ K ∗ own0 c X ∗ free1 (nxt c) ∗ ow c n ∗ tok c 3 r 0 ∗ reached ER (kcell (c, 3)) r ∗ tok (nxt c) 6 r 0 ∗ reached ER (kcell (nxt c, 6)) r)
      ⊢ iprop(((cred (tallyAt (kcell (c, 3)) 0 N) ∗ ow c (n + 1)) -∗ WP c (k' ⟨⟩) Q)
          -∗ WP c (.op (.enqueueDma sl0 (.remote (Dev.tc n' : Thread nD τ) sl1 sS hsc) sem hsrc hdst hsem) k') Q) := by
  subst h₁ h₂
  unfold own0 free1
  iintro ⟨#HR, ⟨%f, %hf, Hs⟩, ⟨%g, Hd⟩, HO, Ht, Hre, Ht', Hre'⟩ Hk
  iapply (step_send m ρ K c (nxt c) n' hn' 3 6 n r r (src := sl0) (dst := sl1) rfl rfl i (a := N) rfl rfl rfl hO hr
    (by rw [one_duty c 3 (by decide) (by decide) (ne_arK c 3 (by decide))]; exact Finset.mem_singleton_self _) hr
    (by rw [one_duty (nxt c) 6 (by decide) (by decide) (ne_arK (nxt c) 6 (by decide))]; exact Finset.mem_singleton_self _)
    (q := fullShare) (fs := f) (fd := g) (G := iprop(emp))
    (by show _ ⊢ free0 c; unfold free0; iintro H; iexists f; iexact H)
    (by rw [hX]; unfold own1; iintro ⟨H, -⟩; iexists (sl1.view.write (Elt F) g (sl0.view.read (Elt F) f) Finset.univ); isplitr; · (ipureintro; exact (View.read_write_univ _ _).trans hf)
        iexact H)) $$ [Hs Hd HO Ht Hre Ht' Hre']
  · isplitr; · iexact HR
    isplitl [Hs]; · iexact Hs
    isplitl [Hd]
    · isplitl [Hd]; · iexact Hd
      iempintro
    isplitl [HO]; · iexact HO
    isplitl [Ht]; · iexact Ht
    isplitl [Hre]; · iexact Hre
    isplitl [Ht']; · iexact Ht'
    iexact Hre'
  iexact Hk

/-- A copy of the upper half to the lower half of the right neighbour: step 1. -/
theorem send_upper (c n' : Dev nD) (hn' : n' = nxt c)
    {hsc : (sl0 : Memref sig .tc .vmem S1024x2048 .f32).view.ref.isScScratch = false} {sS sem : SemLoc sig} (h₁ : sS = csem 4) (h₂ : sem = csem 5)
    {hsrc : (sl1 : Memref sig .tc .vmem S1024x2048 .f32).view.WordExact} {hdst : (sl0 : Memref sig .tc .vmem S1024x2048 .f32).view.WordExact}
    {hsem : DmaTarget.Typed (nD := nD) (τ := τ) .vmem sem (.remote (Dev.tc n' : Thread nD τ) sl0 sS hsc)}
    {α : Type} {Q : α → sProp 𝕄} {k' : PUnit → Prog (TpuEff nD τ sig (Elt F) Λ₀ .tc) α} :
    iprop(records m ρ K ∗ own1 c (sent1 m ρ c) ∗ (free0 (nxt c) ∗ reached ER (kcell (c, 0)) 1) ∗ ow c 5 ∗ tok c 4 0 0 ∗ reached ER (kcell (c, 4)) 0
        ∗ tok (nxt c) 5 0 0 ∗ reached ER (kcell (nxt c, 5)) 0)
      ⊢ iprop(((cred (tallyAt (kcell (c, 4)) 0 N) ∗ ow c 6) -∗ WP c (k' ⟨⟩) Q)
          -∗ WP c (.op (.enqueueDma sl1 (.remote (Dev.tc n' : Thread nD τ) sl0 sS hsc) sem hsrc hdst hsem) k') Q) := by
  subst h₁ h₂
  unfold own1 free0
  iintro ⟨#HR, ⟨%f, %hf, Hs⟩, ⟨⟨%g, Hd⟩, Hc⟩, HO, Ht, Hre, Ht', Hre'⟩ Hk
  iapply (step_send m ρ K c (nxt c) n' hn' 4 5 5 0 0 (src := sl1) (dst := sl0) rfl rfl 4 (a := N) rfl rfl rfl rfl (by decide)
    (by rw [one_duty c 4 (by decide) (by decide) (ne_arK c 4 (by decide))]; exact Finset.mem_singleton_self _) (by decide)
    (by rw [one_duty (nxt c) 5 (by decide) (by decide) (ne_arK (nxt c) 5 (by decide))]; exact Finset.mem_singleton_self _)
    (q := fullShare) (fs := f) (fd := g) (G := reached ER (kcell (c, 0)) 1)
    (by show _ ⊢ free1 c; unfold free1; iintro H; iexists f; iexact H)
    (by show _ ⊢ iprop(own0 (nxt c) (sent1 m ρ (prv (nxt c))) ∗ reached ER (kcell (prv (nxt c), 0)) 1)
        rw [prv_nxt]; unfold own0; iintro ⟨H, Hc⟩
        isplitl [H]
        · iexists (sl0.view.write (Elt F) g (sl1.view.read (Elt F) f) Finset.univ); isplitr; · (ipureintro; exact (View.read_write_univ _ _).trans hf)
          iexact H
        iexact Hc)) $$ [Hs Hd Hc HO Ht Hre Ht' Hre']
  · isplitr; · iexact HR
    isplitl [Hs]; · iexact Hs
    isplitl [Hd Hc]; · isplitl [Hd] <;> iassumption
    isplitl [HO]; · iexact HO
    isplitl [Ht]; · iexact Ht
    isplitl [Hre]; · iexact Hre
    isplitl [Ht']; · iexact Ht'
    iexact Hre'
  iexact Hk

theorem pay6_0 (c : Dev nD) : pay m ρ (nxt c) 6 0 0 = (own1 (nxt c) (sent0 m ρ c) : sProp 𝕄) := by
  show own1 (nxt c) (sent0 m ρ (prv (nxt c))) = _
  rw [prv_nxt]
theorem pay6_1 (c : Dev nD) : pay m ρ (nxt c) 6 1 0 = (own1 (nxt c) (sent2 m ρ c) : sProp 𝕄) := by
  show own1 (nxt c) (sent2 m ρ (prv (nxt c))) = _
  rw [prv_nxt]
theorem pay0_0 (c : Dev nD) : pay m ρ (prv c) 0 0 0 = (free0 c : sProp 𝕄) := by
  show free0 (nxt (prv c)) = _
  rw [nxt_prv]
theorem pay0_1 (c : Dev nD) : pay m ρ (prv c) 0 1 0 = (iprop(free1 c ∗ reached ER (kcell (c, 6)) 1) : sProp 𝕄) := by
  show iprop(free1 (nxt (prv c)) ∗ reached ER (kcell (nxt (prv c), 6)) 1) = _
  rw [nxt_prv]

theorem body2 (c : Dev nD) (v2 v4 : BitVec 32) (P₀ : FVec F S1024x2048 .f32) (Q : FVec F S1024x2048 .f32 → sProp 𝕄) :
    iprop(records m ρ K ∗ xP m ρ c ∗ wP m ρ c ∗ pP c P₀ ∗ free0 c ∗ free1 (nxt c) ∗ ow c 3 ∗ tok c 3 0 0 ∗ tok (nxt c) 6 0 0)
      ⊢ iprop(((xP m ρ c ∗ wP m ρ c ∗ pP c P₀ ∗ ow c 4 ∗ cred (tallyAt (kcell (c, 3)) 0 N)) -∗ Q (part0 m ρ c))
        -∗ WP c (k0_part2_skel (F := F) xM (Memref.isWhole_whole _) wM (Memref.isWhole_whole _) oM (Memref.isWhole_whole _) cM (Memref.isWhole_whole _) pM (Memref.isWhole_whole _) aM (Memref.isWhole_whole _) cc0_scratch3 cc0_scratch4 cc0_scratch5 cc0_scratch6 cc0_scratch7 cc0_scratch8 c v2 v4) Q) := by
  unfold k0_part2_skel
  simp only [semSignalWord, semWaitWord, Prog.lift, Prog.bind_op, Prog.bind_ret, Prog.pure_eq_ret]
  iintro ⟨#HR, Hx, Hw, Hp, Hf, Hf', HO, Ht, Ht'⟩ Hk
  ihave HHre3 := (record_at m ρ K (c, 3)) $$ HR
  icases HHre3 with ⟨-, #Hre3⟩
  ihave HHre6 := (record_at m ρ K (nxt c, 6)) $$ HR
  icases HHre6 with ⟨-, #Hre6⟩
  iapply (wp_load 𝒱₀ (c : Thread nD τ) none Set.univ (m := xM) (Finset.subset_univ _)) $$ Hx; iintro Hx
  iapply (load_w c (wstg m ρ c)) $$ Hw; iintro Hw
  ihave Hf1 := (own_of_free0 c) $$ Hf
  icases Hf1 with ⟨%X, Hf⟩
  iapply (load0 c X) $$ Hf; iintro Hf
  ihave Hf2 := (free_of_own0 c X) $$ Hf
  iapply (store0 c (sent0 m ρ c) (stored1 m ρ c _ _)) $$ Hf2; iintro Hf
  iapply (send_lower m ρ K c _ (dev4_eq c) 3 0 2 (sent0 m ρ c) (pay6_0 m ρ c) (by decide) rfl rfl rfl) $$ [Hf Hf' HO Ht Ht']
  · isplitr; · iexact HR
    isplitl [Hf]; · iexact Hf
    isplitl [Hf']; · iexact Hf'
    isplitl [HO]; · iexact HO
    isplitl [Ht]; · iexact Ht
    isplitr; · iexact Hre3
    isplitl [Ht']; · iexact Ht'
    iexact Hre6
  iintro ⟨Hc, HO⟩
  iapply (wp_load 𝒱₀ (c : Thread nD τ) none Set.univ (m := xM) (Finset.subset_univ _)) $$ Hx; iintro Hx
  iapply (load_w c (wstg m ρ c)) $$ Hw; iintro Hw
  iapply (load_p c P₀) $$ Hp; iintro Hp
  iapply (wp_done c (part0 m ρ c))
  iapply Hk
  isplitl [Hx]; · iexact Hx
  isplitl [Hw]; · iexact Hw
  isplitl [Hp]; · iexact Hp
  isplitl [HO]; · iexact HO
  iexact Hc

theorem body3 (c : Dev nD) (v4 v7 : BitVec 32) (P₀ : FVec F S1024x2048 .f32) (Q : PUnit → sProp 𝕄) :
    iprop(records m ρ K ∗ levAts L lv ∗ pP c P₀ ∗ ow c 4 ∗ cred (tallyAt (kcell (c, 3)) 0 N) ∗ cred (tallyAt (kcell (c, 6)) 2 N)
        ∗ pos c 3 0 ∗ pos c 6 0 ∗ tok (prv c) 0 0 0)
      ⊢ iprop(((pP c (part0 m ρ c) ∗ own1 c (sent1 m ρ c) ∗ ow c 5 ∗ pos c 3 1 ∗ reached ER (kcell (c, 3)) 1 ∗ pos c 6 1 ∗ reached ER (kcell (c, 6)) 1) -∗ Q ⟨⟩)
        -∗ WP c (k0_part3_skel (F := F) xM (Memref.isWhole_whole _) wM (Memref.isWhole_whole _) oM (Memref.isWhole_whole _) cM (Memref.isWhole_whole _) pM (Memref.isWhole_whole _) aM (Memref.isWhole_whole _) cc0_scratch3 cc0_scratch4 cc0_scratch5 cc0_scratch6 cc0_scratch7 cc0_scratch8 c v4 v7 (part0 m ρ c)) Q) := by
  unfold k0_part3_skel
  simp only [semSignalWord, semWaitWord, Prog.lift, Prog.bind_op, Prog.bind_ret, Prog.pure_eq_ret]
  iintro ⟨#HR, #HL, Hp, HO, Hc3, Hc6, Ha3, Ha6, Ht⟩ Hk
  ihave HHre0 := (record_at m ρ K (prv c, 0)) $$ HR
  icases HHre0 with ⟨-, #Hre0⟩
  iapply (store_p c P₀ (part0 m ρ c) (stored3 _)) $$ Hp; iintro Hp
  iapply (step_wait m ρ K c 3 4 0 0 (wpE_waitDma2_eq 𝒱₀ (c : Thread nD τ) none Set.univ) rfl
    (by rw [expect_one m ρ c 3 (r := 0) (by decide) (one_duty c 3 (by decide) (by decide) (ne_arK c 3 (by decide)))]; rfl) (by decide) (by simp [pmts]) (rest_one m ρ c 3 (r := 0) (by decide) (one_duty c 3 (by decide) (by decide) (ne_arK c 3 (by decide))))) $$ [HO Hc3 Ha3]
  · isplitr; · iexact HR
    isplitr; · iexact HL
    isplitl [Hc3]; · iexact Hc3
    isplitl [HO]; · iexact HO
    iexact Ha3
  iintro ⟨HO, Ha3, Hr3, Hf⟩
  ihave Hf := (Entails.of_eq (show (pay m ρ c 3 0 0 : sProp 𝕄) = free0 c from rfl)) $$ Hf
  iapply (step_wait m ρ K c 6 4 0 2 (wpE_waitDma2_eq 𝒱₀ (c : Thread nD τ) none Set.univ) rfl
    (by rw [expect_one m ρ c 6 (r := 0) (by decide) (one_duty c 6 (by decide) (by decide) (ne_arK c 6 (by decide)))]; rfl) (by decide) (by simp [pmts]) (rest_one m ρ c 6 (r := 0) (by decide) (one_duty c 6 (by decide) (by decide) (ne_arK c 6 (by decide))))) $$ [HO Hc6 Ha6]
  · isplitr; · iexact HR
    isplitr; · iexact HL
    isplitl [Hc6]; · iexact Hc6
    isplitl [HO]; · iexact HO
    iexact Ha6
  iintro ⟨HO, Ha6, Hr6, Hs⟩
  iapply (step_signal m ρ K c (prv c) _ (dev5_eq c) 0 4 0 0 rfl 3 rfl rfl (by decide)
    (by rw [one_duty (prv c) 0 (by decide) (by decide) (ne_arK (prv c) 0 (by decide))]; exact Finset.mem_singleton_self _)) $$ [HO Ht Hf]
  · isplitr; · iexact HR
    isplitl [HO]; · iexact HO
    isplitl [Ht]; · iexact Ht
    isplitl [Hf]; · rw [pay0_0]; iexact Hf
    iexact Hre0
  iintro HO
  ihave Hs := (Entails.of_eq (show (pay m ρ c 6 0 0 : sProp 𝕄) = own1 c (sent0 m ρ (prv c)) from rfl)) $$ Hs
  iapply (load1 c (sent0 m ρ (prv c))) $$ Hs; iintro Hs
  iapply (load_p c (part0 m ρ c)) $$ Hp; iintro Hp
  iapply (load1 c (sent0 m ρ (prv c))) $$ Hs; iintro Hs
  ihave Hs := (free_of_own1 c _) $$ Hs
  iapply (store1 c (sent1 m ρ c) (stored4 _ _)) $$ Hs; iintro Hs
  iapply (wp_done c _)
  iapply Hk
  isplitl [Hp]; · iexact Hp
  isplitl [Hs]; · iexact Hs
  isplitl [HO]; · iexact HO
  isplitl [Ha3]; · iexact Ha3
  isplitl [Hr3]; · iexact Hr3
  isplitl [Ha6]; · iexact Ha6
  iexact Hr6

theorem body4 (c : Dev nD) (v2 v4 : BitVec 32) (P₀ : FVec F S1024x2048 .f32) (Q : PUnit → sProp 𝕄) :
    iprop(records m ρ K ∗ levAts L lv ∗ xP m ρ c ∗ wP m ρ c ∗ pP c P₀ ∗ own1 c (sent1 m ρ c) ∗ ow c 5 ∗ cred (tallyAt (kcell (c, 0)) 3 1) ∗ pos c 0 0
        ∗ tok c 4 0 0 ∗ tok (nxt c) 5 0 0)
      ⊢ iprop(((xP m ρ c ∗ wP m ρ c ∗ pP c (part1 m ρ c) ∗ ow c 6 ∗ cred (tallyAt (kcell (c, 4)) 0 N) ∗ pos c 0 1) -∗ Q ⟨⟩)
        -∗ WP c (k0_part4_skel (F := F) xM (Memref.isWhole_whole _) wM (Memref.isWhole_whole _) oM (Memref.isWhole_whole _) cM (Memref.isWhole_whole _) pM (Memref.isWhole_whole _) aM (Memref.isWhole_whole _) cc0_scratch3 cc0_scratch4 cc0_scratch5 cc0_scratch6 cc0_scratch7 cc0_scratch8 c v2 v4) Q) := by
  unfold k0_part4_skel
  simp only [semSignalWord, semWaitWord, Prog.lift, Prog.bind_op, Prog.bind_ret, Prog.pure_eq_ret]
  iintro ⟨#HR, #HL, Hx, Hw, Hp, Hs, HO, Hc0, Ha0, Ht, Ht'⟩ Hk
  ihave HHre4 := (record_at m ρ K (c, 4)) $$ HR
  icases HHre4 with ⟨-, #Hre4⟩
  ihave HHre5 := (record_at m ρ K (nxt c, 5)) $$ HR
  icases HHre5 with ⟨-, #Hre5⟩
  iapply (step_wait m ρ K c 0 5 0 3 (wpE_semWait_eq 𝒱₀ (c : Thread nD τ) none Set.univ) rfl
    (by rw [expect_one m ρ c 0 (r := 0) (by decide) (one_duty c 0 (by decide) (by decide) (ne_arK c 0 (by decide)))]; rfl) (by decide) (by simp [pmts]) (rest_one m ρ c 0 (r := 0) (by decide) (one_duty c 0 (by decide) (by decide) (ne_arK c 0 (by decide))))) $$ [HO Hc0 Ha0]
  · isplitr; · iexact HR
    isplitr; · iexact HL
    isplitl [Hc0]; · iexact Hc0
    isplitl [HO]; · iexact HO
    iexact Ha0
  iintro ⟨HO, Ha0, Hr0, Hf⟩
  ihave Hf := (Entails.of_eq (show (pay m ρ c 0 0 0 : sProp 𝕄) = free0 (nxt c) from rfl)) $$ Hf
  iapply (send_upper m ρ K c _ (dev6_eq c) rfl rfl) $$ [Hs Hf Hr0 HO Ht Ht']
  · isplitr; · iexact HR
    isplitl [Hs]; · iexact Hs
    isplitl [Hf Hr0]
    · isplitl [Hf]; · iexact Hf
      iexact Hr0
    isplitl [HO]; · iexact HO
    isplitl [Ht]; · iexact Ht
    isplitr; · iexact Hre4
    isplitl [Ht']; · iexact Ht'
    iexact Hre5
  iintro ⟨Hc, HO⟩
  iapply (wp_load 𝒱₀ (c : Thread nD τ) none Set.univ (m := xM) (Finset.subset_univ _)) $$ Hx; iintro Hx
  iapply (load_w c (wstg m ρ c)) $$ Hw; iintro Hw
  iapply (load_p c P₀) $$ Hp; iintro Hp
  iapply (store_p c P₀ (part1 m ρ c) (stored5 m ρ c _ _)) $$ Hp; iintro Hp
  iapply (wp_done c _)
  iapply Hk
  isplitl [Hx]; · iexact Hx
  isplitl [Hw]; · iexact Hw
  isplitl [Hp]; · iexact Hp
  isplitl [HO]; · iexact HO
  isplitl [Hc]; · iexact Hc
  iexact Ha0

theorem body5 (c : Dev nD) (v4 v7 : BitVec 32) (Q : PUnit → sProp 𝕄) :
    iprop(records m ρ K ∗ levAts L lv ∗ pP c (part1 m ρ c) ∗ ow c 6 ∗ cred (tallyAt (kcell (c, 4)) 0 N) ∗ cred (tallyAt (kcell (c, 5)) 4 N) ∗ cred (tallyAt (kcell (c, 0)) 5 1)
        ∗ pos c 4 0 ∗ pos c 5 0 ∗ pos c 0 1 ∗ tok (prv c) 0 1 0 ∗ reached ER (kcell (c, 6)) 1)
      ⊢ iprop(((pP c (part1 m ρ c) ∗ own0 c (sent2 m ρ c) ∗ free1 (nxt c) ∗ reached ER (kcell (nxt c, 6)) 1 ∗ ow c 7 ∗ pos c 4 1 ∗ pos c 5 1 ∗ pos c 0 2) -∗ Q ⟨⟩)
        -∗ WP c (k0_part5_skel (F := F) xM (Memref.isWhole_whole _) wM (Memref.isWhole_whole _) oM (Memref.isWhole_whole _) cM (Memref.isWhole_whole _) pM (Memref.isWhole_whole _) aM (Memref.isWhole_whole _) cc0_scratch3 cc0_scratch4 cc0_scratch5 cc0_scratch6 cc0_scratch7 cc0_scratch8 c v4 v7) Q) := by
  unfold k0_part5_skel
  simp only [semSignalWord, semWaitWord, Prog.lift, Prog.bind_op, Prog.bind_ret, Prog.pure_eq_ret]
  iintro ⟨#HR, #HL, Hp, HO, Hc4, Hc5, Hc0, Ha4, Ha5, Ha0, Ht, Hr6⟩ Hk
  iapply (step_wait m ρ K c 4 6 0 0 (wpE_waitDma2_eq 𝒱₀ (c : Thread nD τ) none Set.univ) rfl
    (by rw [expect_one m ρ c 4 (r := 0) (by decide) (one_duty c 4 (by decide) (by decide) (ne_arK c 4 (by decide)))]; rfl) (by decide) (by simp [pmts]) (rest_one m ρ c 4 (r := 0) (by decide) (one_duty c 4 (by decide) (by decide) (ne_arK c 4 (by decide))))) $$ [HO Hc4 Ha4]
  · isplitr; · iexact HR
    isplitr; · iexact HL
    isplitl [Hc4]; · iexact Hc4
    isplitl [HO]; · iexact HO
    iexact Ha4
  iintro ⟨HO, Ha4, -, Hf⟩
  ihave Hf := (Entails.of_eq (show (pay m ρ c 4 0 0 : sProp 𝕄) = free1 c from rfl)) $$ Hf
  iapply (step_wait m ρ K c 5 6 0 4 (wpE_waitDma2_eq 𝒱₀ (c : Thread nD τ) none Set.univ) rfl
    (by rw [expect_one m ρ c 5 (r := 0) (by decide) (one_duty c 5 (by decide) (by decide) (ne_arK c 5 (by decide)))]; rfl) (by decide) (by simp [pmts]) (rest_one m ρ c 5 (r := 0) (by decide) (one_duty c 5 (by decide) (by decide) (ne_arK c 5 (by decide))))) $$ [HO Hc5 Ha5]
  · isplitr; · iexact HR
    isplitr; · iexact HL
    isplitl [Hc5]; · iexact Hc5
    isplitl [HO]; · iexact HO
    iexact Ha5
  iintro ⟨HO, Ha5, -, Hs⟩
  ihave Hs := (Entails.of_eq (show (pay m ρ c 5 0 0 : sProp 𝕄) = iprop(own0 c (sent1 m ρ (prv c)) ∗ reached ER (kcell (prv c, 0)) 1) from rfl)) $$ Hs
  icases Hs with ⟨Hs, Hrp⟩
  iapply (step_signal m ρ K c (prv c) _ (dev7_eq c) 0 6 1 0 rfl 5 rfl rfl (by decide)
    (by rw [one_duty (prv c) 0 (by decide) (by decide) (ne_arK (prv c) 0 (by decide))]; exact Finset.mem_singleton_self _)) $$ [HO Ht Hf Hr6 Hrp]
  · isplitr; · iexact HR
    isplitl [HO]; · iexact HO
    isplitl [Ht]; · iexact Ht
    isplitl [Hf Hr6]
    · rw [pay0_1]
      isplitl [Hf]; · iexact Hf
      iexact Hr6
    iexact Hrp
  iintro HO
  iapply (load0 c (sent1 m ρ (prv c))) $$ Hs; iintro Hs
  iapply (load_p c (part1 m ρ c)) $$ Hp; iintro Hp
  iapply (load0 c (sent1 m ρ (prv c))) $$ Hs; iintro Hs
  ihave Hs := (free_of_own0 c _) $$ Hs
  iapply (store0 c (sent2 m ρ c) (stored6 _ _)) $$ Hs; iintro Hs
  iapply (step_wait m ρ K c 0 7 1 5 (wpE_semWait_eq 𝒱₀ (c : Thread nD τ) none Set.univ) rfl
    (by rw [expect_one m ρ c 0 (r := 1) (by decide) (one_duty c 0 (by decide) (by decide) (ne_arK c 0 (by decide)))]; rfl) (by decide) (by simp [pmts]) (rest_one m ρ c 0 (r := 1) (by decide) (one_duty c 0 (by decide) (by decide) (ne_arK c 0 (by decide))))) $$ [HO Hc0 Ha0]
  · isplitr; · iexact HR
    isplitr; · iexact HL
    isplitl [Hc0]; · iexact Hc0
    isplitl [HO]; · iexact HO
    iexact Ha0
  iintro ⟨HO, Ha0, -, Hf⟩
  ihave Hf := (Entails.of_eq (show (pay m ρ c 0 1 0 : sProp 𝕄) = iprop(free1 (nxt c) ∗ reached ER (kcell (nxt c, 6)) 1) from rfl)) $$ Hf
  icases Hf with ⟨Hf, Hr⟩
  iapply (wp_done c _)
  iapply Hk
  isplitl [Hp]; · iexact Hp
  isplitl [Hs]; · iexact Hs
  isplitl [Hf]; · iexact Hf
  isplitl [Hr]; · iexact Hr
  isplitl [HO]; · iexact HO
  isplitl [Ha4]; · iexact Ha4
  isplitl [Ha5]; · iexact Ha5
  iexact Ha0

theorem body6 (c : Dev nD) (v2 v4 : BitVec 32) (P₀ : FVec F S1024x2048 .f32) (Q : PUnit → sProp 𝕄) :
    iprop(records m ρ K ∗ levAts L lv ∗ xP m ρ c ∗ wP m ρ c ∗ pP c P₀ ∗ own0 c (sent2 m ρ c) ∗ free1 (nxt c) ∗ ow c 7 ∗ tok c 3 1 0 ∗ reached ER (kcell (c, 3)) 1
        ∗ tok (nxt c) 6 1 0 ∗ reached ER (kcell (nxt c, 6)) 1 ∗ pos c 3 1)
      ⊢ iprop(((xP m ρ c ∗ wP m ρ c ∗ pP c (part2 m ρ c) ∗ free0 c ∗ ow c 8 ∗ pos c 3 2) -∗ Q ⟨⟩)
        -∗ WP c (k0_part6_skel (F := F) xM (Memref.isWhole_whole _) wM (Memref.isWhole_whole _) oM (Memref.isWhole_whole _) cM (Memref.isWhole_whole _) pM (Memref.isWhole_whole _) aM (Memref.isWhole_whole _) cc0_scratch3 cc0_scratch4 cc0_scratch5 cc0_scratch6 cc0_scratch7 cc0_scratch8 c v2 v4) Q) := by
  unfold k0_part6_skel
  simp only [semSignalWord, semWaitWord, Prog.lift, Prog.bind_op, Prog.bind_ret, Prog.pure_eq_ret]
  iintro ⟨#HR, #HL, Hx, Hw, Hp, Hf, Hf', HO, Ht, Hre3, Ht', Hre6, Ha3⟩ Hk
  iapply (send_lower m ρ K c _ (dev8_eq c) 7 1 6 (sent2 m ρ c) (pay6_1 m ρ c) (by decide) rfl rfl rfl) $$ [Hf Hf' HO Ht Ht' Hre3 Hre6]
  · isplitr; · iexact HR
    isplitl [Hf]; · iexact Hf
    isplitl [Hf']; · iexact Hf'
    isplitl [HO]; · iexact HO
    isplitl [Ht]; · iexact Ht
    isplitl [Hre3]; · iexact Hre3
    isplitl [Ht']; · iexact Ht'
    iexact Hre6
  iintro ⟨Hc, HO⟩
  iapply (wp_load 𝒱₀ (c : Thread nD τ) none Set.univ (m := xM) (Finset.subset_univ _)) $$ Hx; iintro Hx
  iapply (load_w c (wstg m ρ c)) $$ Hw; iintro Hw
  iapply (load_p c P₀) $$ Hp; iintro Hp
  iapply (store_p c P₀ (part2 m ρ c) (stored7 m ρ c _ _)) $$ Hp; iintro Hp
  iapply (step_wait m ρ K c 3 8 1 0 (wpE_waitDma2_eq 𝒱₀ (c : Thread nD τ) none Set.univ) rfl
    (by rw [expect_one m ρ c 3 (r := 1) (by decide) (one_duty c 3 (by decide) (by decide) (ne_arK c 3 (by decide)))]; rfl) (by decide) (by simp [pmts]) (rest_one m ρ c 3 (r := 1) (by decide) (one_duty c 3 (by decide) (by decide) (ne_arK c 3 (by decide))))) $$ [HO Hc Ha3]
  · isplitr; · iexact HR
    isplitr; · iexact HL
    isplitl [Hc]; · iexact Hc
    isplitl [HO]; · iexact HO
    iexact Ha3
  iintro ⟨HO, Ha3, -, Hf⟩
  ihave Hf := (Entails.of_eq (show (pay m ρ c 3 1 0 : sProp 𝕄) = free0 c from rfl)) $$ Hf
  iapply (wp_done c _)
  iapply Hk
  isplitl [Hx]; · iexact Hx
  isplitl [Hw]; · iexact Hw
  isplitl [Hp]; · iexact Hp
  isplitl [Hf]; · iexact Hf
  isplitl [HO]; · iexact HO
  iexact Ha3

theorem body7 (c : Dev nD) (v2 : BitVec 32) (Y₀ : FVec F S1024x2048 .f32) (Q : PUnit → sProp 𝕄) :
    iprop(records m ρ K ∗ levAts L lv ∗ pP c (part2 m ρ c) ∗ oP c Y₀ ∗ freeRow c c ∗ ow c 8 ∗ cred (tallyAt (kcell (c, 6)) 6 N) ∗ pos c 6 1)
      ⊢ iprop(((pP c (part2 m ρ c) ∗ oP c (yAt m ρ c) ∗ rowPts m ρ c c fullShare ∗ free1 c ∗ ow c 8 ∗ pos c 6 2) -∗ Q ⟨⟩)
        -∗ WP c (k0_part7_skel (F := F) xM (Memref.isWhole_whole _) wM (Memref.isWhole_whole _) oM (Memref.isWhole_whole _) cM (Memref.isWhole_whole _) pM (Memref.isWhole_whole _) aM (Memref.isWhole_whole _) cc0_scratch3 cc0_scratch4 cc0_scratch5 cc0_scratch6 cc0_scratch7 cc0_scratch8 c v2) Q) := by
  unfold k0_part7_skel
  simp only [semSignalWord, semWaitWord, Prog.lift, Prog.bind_op, Prog.bind_ret, Prog.pure_eq_ret]
  iintro ⟨#HR, #HL, Hp, Ho, Hr, HO, Hc6, Ha6⟩ Hk
  iapply (step_wait m ρ K c 6 8 1 6 (wpE_waitDma2_eq 𝒱₀ (c : Thread nD τ) none Set.univ) rfl
    (by rw [expect_one m ρ c 6 (r := 1) (by decide) (one_duty c 6 (by decide) (by decide) (ne_arK c 6 (by decide)))]; rfl) (by decide) (by simp [pmts]) (rest_one m ρ c 6 (r := 1) (by decide) (one_duty c 6 (by decide) (by decide) (ne_arK c 6 (by decide))))) $$ [HO Hc6 Ha6]
  · isplitr; · iexact HR
    isplitr; · iexact HL
    isplitl [Hc6]; · iexact Hc6
    isplitl [HO]; · iexact HO
    iexact Ha6
  iintro ⟨HO, Ha6, -, Hs⟩
  ihave Hs := (Entails.of_eq (show (pay m ρ c 6 1 0 : sProp 𝕄) = own1 c (sent2 m ρ (prv c)) from rfl)) $$ Hs
  iapply (load1 c (sent2 m ρ (prv c))) $$ Hs; iintro Hs
  ihave Hs := (free_of_own1 c _) $$ Hs
  iapply (load_p c (part2 m ρ c)) $$ Hp; iintro Hp
  iapply (load_o c Y₀) $$ Ho; iintro Ho
  iapply (store_o c Y₀ (yAt m ρ c) (stored8 _ _)) $$ Ho; iintro Ho
  iapply (load_o c (yAt m ρ c)) $$ Ho; iintro Ho
  iapply (load_row c) $$ Hr; iintro %v Hr
  iapply (store_row m ρ c rfl) $$ Hr; iintro Hr
  iapply (wp_done c _)
  iapply Hk
  isplitl [Hp]; · iexact Hp
  isplitl [Ho]; · iexact Ho
  isplitl [Hr]; · iexact Hr
  isplitl [Hs]; · iexact Hs
  isplitl [HO]; · iexact HO
  iexact Ha6

end Body

end Cert.KernelIdeal.RingProof

end
-- ==== Proof.Body2.lean ====
/-
The body of the kernel on one device: the exchange of the maxima, the quantisation, the exit; then the whole body.
-/
module

public import proofs.«01_k».proof.Proof.Body

@[expose] public section

noncomputable section

namespace Cert.KernelIdeal.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

section Body
variable (K : Dev nD × Fin 14 → ℕ)

theorem worth_arK (j : Dev nD) : worth (arK j) = Na := by fin_cases j <;> rfl
theorem rds_arK (j : Dev nD) : rds (arK j) = 1 := by fin_cases j <;> rfl
theorem duty_row (t j : Dev nD) (h : t ≠ j) : dutySet t (arK j) = {0} :=
  (if_neg (by clear h; revert j; decide)).trans (if_neg (by revert t j; decide))
theorem amount_row (c : Dev nD) : (aRow c : Memref sig .tc .vmem S8x128 .f32).view.amount (csem (arK c)) = Na := by rw [← arSend_sem c]; rfl
theorem pay_exit (c : Dev nD) (d : Fin 4) : pay m ρ c 1 0 d = (iprop(emp) : sProp 𝕄) := rfl
theorem peer_ne (c : Dev nD) (k : Fin 4) (hk : k ≠ 0) : peer c k ≠ c := by revert c k; decide

omit [FloatOps F] in
theorem read_a (f : (cc0_scratch2 : Ref sig .tc).ty.Contents (Elt F)) :
    (aM : Memref sig .tc .vmem S4x8x128 .f32).view.readAt (Elt F) (Rect.unit (s := S4x8x128) ![0, 0, 0] S4x8x128.size inb_S4x8x128_S4x8x128_0_0_0).toLoadRect f = f :=
  Memref.readAt_unit_zero (Elt F) cc0_scratch2 (funext fun a => by fin_cases a <;> rfl) _ f
theorem load_a (c : Dev nD) {α : Type} (X : (cc0_scratch2 : Ref sig .tc).ty.Contents (Elt F))
    {hl : aM.view.LoadsAt (Rect.unit (s := S4x8x128) ![0, 0, 0] S4x8x128.size inb_S4x8x128_S4x8x128_0_0_0).toLoadRect}
    {k : Vec F S4x8x128 .f32 → Prog (TpuEff nD τ sig (Elt F) Λ₀ .tc) α} {Q : α → sProp 𝕄} :
    ((c : Thread nD τ).loc cc0_scratch2 ↦{fullShare} X) ⊢ iprop((((c : Thread nD τ).loc cc0_scratch2 ↦{fullShare} X) -∗ WP c (k X) Q)
      -∗ WP c (.op (TpuEff.load aM (Rect.unit (s := S4x8x128) ![0, 0, 0] S4x8x128.size inb_S4x8x128_S4x8x128_0_0_0).toLoadRect hl) k) Q) := by
  iintro H Hk
  iapply (wp_load 𝒱₀ (c : Thread nD τ) none Set.univ (m := aM) (Finset.subset_univ _)) $$ H
  iintro H
  rw [read_a]
  iapply Hk
  iexact H

/-- A device's row of maxima copied to a peer, under one of the row's three shares. -/
theorem send_row (c t n' : Dev nD) (hn' : n' = t) (ht : t ≠ c) (k : Fin 14) (hk : 7 ≤ k.val ∧ k.val < 10) (i : Fin 3)
    (hp : pay m ρ c k 0 0 = (rowPts m ρ c c (qs i) : sProp 𝕄)) (n : ℕ)
    (hO : owed n c = owed (n + 1) c + tallyAt (kcell (t, arK c)) 7 Na)
    {hsc : (aRow c : Memref sig .tc .vmem S8x128 .f32).view.ref.isScScratch = false} {sS sem : SemLoc sig} (h₁ : sS = csem k) (h₂ : sem = csem (arK c))
    {hsrc : (aRow c : Memref sig .tc .vmem S8x128 .f32).view.WordExact} {hdst : (aRow c : Memref sig .tc .vmem S8x128 .f32).view.WordExact}
    {hsem : DmaTarget.Typed (nD := nD) (τ := τ) .vmem sem (.remote (Dev.tc n' : Thread nD τ) (aRow c) sS hsc)}
    {α : Type} {Q : α → sProp 𝕄} {k' : PUnit → Prog (TpuEff nD τ sig (Elt F) Λ₀ .tc) α} :
    iprop(records m ρ K ∗ rowPts m ρ c c (qs i) ∗ freeRow t c ∗ ow c n ∗ tok c k 0 0 ∗ tok t (arK c) 0 0)
      ⊢ iprop(((cred (tallyAt (kcell (c, k)) 0 Na) ∗ ow c (n + 1)) -∗ WP c (k' ⟨⟩) Q)
          -∗ WP c (.op (.enqueueDma (aRow c) (.remote (Dev.tc n' : Thread nD τ) (aRow c) sS hsc) sem hsrc hdst hsem) k') Q) := by
  subst h₁ h₂
  have hw : worth k = Na := (if_neg (by omega)).trans (if_neg (by omega))
  have hr : 0 < rds k := by unfold rds; split <;> decide
  unfold rowPts freeRow
  iintro ⟨#HR, Hs, ⟨%g, Hd⟩, HO, Ht, Ht'⟩ Hk
  ihave Hre := (record_at m ρ K (c, k)) $$ HR
  icases Hre with ⟨-, #Hre⟩
  ihave Hre' := (record_at m ρ K (t, arK c)) $$ HR
  icases Hre' with ⟨-, #Hre'⟩
  iapply (step_send m ρ K c t n' hn' k (arK c) n 0 0 (src := aRow c) (dst := aRow c) rfl rfl 7 (a := Na) (amount_row c) hw (worth_arK c) hO hr
    (by rw [one_duty c k (fun e => by subst e; omega) (fun e => by subst e; omega) (ne_arK c k hk.2)]; exact Finset.mem_singleton_self _)
    (by rw [rds_arK]; exact Nat.one_pos) (by rw [duty_row t c ht]; exact Finset.mem_singleton_self _)
    (q := qs i) (fs := amAll m ρ) (fd := g) (G := iprop(emp))
    (by rw [hp]; unfold rowPts; exact Entails.refl _)
    (by rw [pay_arK]; exact sep_elim_left.trans (row_landed m ρ t c g))) $$ [Hs Hd HO Ht Ht']
  · isplitr; · iexact HR
    isplitl [Hs]; · iexact Hs
    isplitl [Hd]
    · isplitl [Hd]; · iexact Hd
      iempintro
    isplitl [HO]; · iexact HO
    isplitl [Ht]; · iexact Ht
    isplitr; · iexact Hre
    isplitl [Ht']; · iexact Ht'
    iexact Hre'
  iexact Hk

theorem body8 (c : Dev nD) (v2 : BitVec 32) (Q : PUnit → sProp 𝕄) :
    iprop(records m ρ K ∗ rowPts m ρ c c fullShare ∗ freeRow (peer c 1) c ∗ freeRow (peer c 2) c ∗ freeRow (peer c 3) c ∗ ow c 8
        ∗ tok c 7 0 0 ∗ tok c 8 0 0 ∗ tok c 9 0 0 ∗ tok (peer c 1) (arK c) 0 0 ∗ tok (peer c 2) (arK c) 0 0 ∗ tok (peer c 3) (arK c) 0 0)
      ⊢ iprop(((ow c 11 ∗ cred (tallyAt (kcell (c, 7)) 0 Na) ∗ cred (tallyAt (kcell (c, 8)) 0 Na) ∗ cred (tallyAt (kcell (c, 9)) 0 Na)) -∗ Q ⟨⟩)
        -∗ WP c (k0_part8_skel (F := F) xM (Memref.isWhole_whole _) wM (Memref.isWhole_whole _) oM (Memref.isWhole_whole _) cM (Memref.isWhole_whole _) pM (Memref.isWhole_whole _) aM (Memref.isWhole_whole _) cc0_scratch3 cc0_scratch4 cc0_scratch5 cc0_scratch6 cc0_scratch7 cc0_scratch8 c v2) Q) := by
  unfold k0_part8_skel
  simp only [semSignalWord, semWaitWord, Prog.lift, Prog.bind_op, Prog.bind_ret, Prog.pure_eq_ret]
  iintro ⟨#HR, Hr, Hf1, Hf2, Hf3, HO, Hs1, Hs2, Hs3, Ht1, Ht2, Ht3⟩ Hk
  ihave Hr := (split_row m ρ c) $$ Hr
  icases Hr with ⟨Hr1, Hr2, Hr3⟩
  iapply (send_row m ρ K c (peer c 1) _ (dev9_eq c) (peer_ne c 1 (by decide)) 7 (by decide) 0 rfl 8 rfl rfl (arSend_sem c)) $$ [Hr1 Hf1 HO Hs1 Ht1]
  · isplitr; · iexact HR
    isplitl [Hr1]; · iexact Hr1
    isplitl [Hf1]; · iexact Hf1
    isplitl [HO]; · iexact HO
    isplitl [Hs1]; · iexact Hs1
    iexact Ht1
  iintro ⟨Hc1, HO⟩
  iapply (send_row m ρ K c (peer c 2) _ (dev10_eq c) (peer_ne c 2 (by decide)) 8 (by decide) 1 rfl 9 rfl rfl (arSend_sem c)) $$ [Hr2 Hf2 HO Hs2 Ht2]
  · isplitr; · iexact HR
    isplitl [Hr2]; · iexact Hr2
    isplitl [Hf2]; · iexact Hf2
    isplitl [HO]; · iexact HO
    isplitl [Hs2]; · iexact Hs2
    iexact Ht2
  iintro ⟨Hc2, HO⟩
  iapply (send_row m ρ K c (peer c 3) _ (dev11_eq c) (peer_ne c 3 (by decide)) 9 (by decide) 2 rfl 10 rfl rfl (arSend_sem c)) $$ [Hr3 Hf3 HO Hs3 Ht3]
  · isplitr; · iexact HR
    isplitl [Hr3]; · iexact Hr3
    isplitl [Hf3]; · iexact Hf3
    isplitl [HO]; · iexact HO
    isplitl [Hs3]; · iexact Hs3
    iexact Ht3
  iintro ⟨Hc3, HO⟩
  iapply (wp_done c _)
  iapply Hk
  isplitl [HO]; · iexact HO
  isplitl [Hc1]; · iexact Hc1
  isplitl [Hc2]; · iexact Hc2
  iexact Hc3

theorem body9 (c : Dev nD) (v2 : BitVec 32) (Q : PUnit → sProp 𝕄) :
    iprop(records m ρ K ∗ levAts L lv ∗ ow c 11
        ∗ cred (tallyAt (kcell (c, arK (peer c 1))) 7 Na) ∗ cred (tallyAt (kcell (c, arK (peer c 2))) 7 Na) ∗ cred (tallyAt (kcell (c, arK (peer c 3))) 7 Na)
        ∗ pos c (arK (peer c 1)) 0 ∗ pos c (arK (peer c 2)) 0 ∗ pos c (arK (peer c 3)) 0)
      ⊢ iprop(((ow c 11 ∗ pos c (arK (peer c 1)) 1 ∗ pos c (arK (peer c 2)) 1 ∗ pos c (arK (peer c 3)) 1
          ∗ rowPts m ρ c (peer c 1) fullShare ∗ rowPts m ρ c (peer c 2) fullShare ∗ rowPts m ρ c (peer c 3) fullShare) -∗ Q ⟨⟩)
        -∗ WP c (k0_part9_skel (F := F) xM (Memref.isWhole_whole _) wM (Memref.isWhole_whole _) oM (Memref.isWhole_whole _) cM (Memref.isWhole_whole _) pM (Memref.isWhole_whole _) aM (Memref.isWhole_whole _) cc0_scratch3 cc0_scratch4 cc0_scratch5 cc0_scratch6 cc0_scratch7 cc0_scratch8 c v2) Q) := by
  unfold k0_part9_skel
  simp only [semSignalWord, semWaitWord, Prog.lift, Prog.bind_op, Prog.bind_ret, Prog.pure_eq_ret]
  iintro ⟨#HR, #HL, HO, Hc1, Hc2, Hc3, Ha1, Ha2, Ha3⟩ Hk
  iapply (step_wait m ρ K c (arK (peer c 1)) 11 0 7 (wpE_waitDma2_eq 𝒱₀ (c : Thread nD τ) none Set.univ) (arWait1_sem c)
    (by rw [expect_one m ρ c _ (r := 0) (by rw [rds_arK]; exact Nat.one_pos) (duty_row c (peer c 1) (peer_ne c 1 (by decide)).symm), worth_arK]; rfl) (by decide) (by simp [pmts])
    ((rest_one m ρ c _ (r := 0) (by rw [rds_arK]; exact Nat.one_pos) (duty_row c (peer c 1) (peer_ne c 1 (by decide)).symm)).trans (pay_arK m ρ c _ 0 0))) $$ [Hc1 HO Ha1]
  · isplitr; · iexact HR
    isplitr; · iexact HL
    isplitl [Hc1]; · iexact Hc1
    isplitl [HO]; · iexact HO
    iexact Ha1
  iintro ⟨HO, Ha1, -, Hr1⟩
  iapply (step_wait m ρ K c (arK (peer c 2)) 11 0 7 (wpE_waitDma2_eq 𝒱₀ (c : Thread nD τ) none Set.univ) (arWait2_sem c)
    (by rw [expect_one m ρ c _ (r := 0) (by rw [rds_arK]; exact Nat.one_pos) (duty_row c (peer c 2) (peer_ne c 2 (by decide)).symm), worth_arK]; rfl) (by decide) (by simp [pmts])
    ((rest_one m ρ c _ (r := 0) (by rw [rds_arK]; exact Nat.one_pos) (duty_row c (peer c 2) (peer_ne c 2 (by decide)).symm)).trans (pay_arK m ρ c _ 0 0))) $$ [Hc2 HO Ha2]
  · isplitr; · iexact HR
    isplitr; · iexact HL
    isplitl [Hc2]; · iexact Hc2
    isplitl [HO]; · iexact HO
    iexact Ha2
  iintro ⟨HO, Ha2, -, Hr2⟩
  iapply (step_wait m ρ K c (arK (peer c 3)) 11 0 7 (wpE_waitDma2_eq 𝒱₀ (c : Thread nD τ) none Set.univ) (arWait3_sem c)
    (by rw [expect_one m ρ c _ (r := 0) (by rw [rds_arK]; exact Nat.one_pos) (duty_row c (peer c 3) (peer_ne c 3 (by decide)).symm), worth_arK]; rfl) (by decide) (by simp [pmts])
    ((rest_one m ρ c _ (r := 0) (by rw [rds_arK]; exact Nat.one_pos) (duty_row c (peer c 3) (peer_ne c 3 (by decide)).symm)).trans (pay_arK m ρ c _ 0 0))) $$ [Hc3 HO Ha3]
  · isplitr; · iexact HR
    isplitr; · iexact HL
    isplitl [Hc3]; · iexact Hc3
    isplitl [HO]; · iexact HO
    iexact Ha3
  iintro ⟨HO, Ha3, -, Hr3⟩
  iapply (wp_done c _)
  iapply Hk
  isplitl [HO]; · iexact HO
  isplitl [Ha1]; · iexact Ha1
  isplitl [Ha2]; · iexact Ha2
  isplitl [Ha3]; · iexact Ha3
  isplitl [Hr1]; · iexact Hr1
  isplitl [Hr2]; · iexact Hr2
  iexact Hr3

theorem body10 (c : Dev nD) (v2 : BitVec 32) (Q : (Σ' (v285 : BitVec 32), BitVec 32) → sProp 𝕄) :
    iprop(records m ρ K ∗ levAts L lv ∗ oP c (yAt m ρ c) ∗ ow c 11
        ∗ cred (tallyAt (kcell (c, 7)) 0 Na) ∗ cred (tallyAt (kcell (c, 8)) 0 Na) ∗ cred (tallyAt (kcell (c, 9)) 0 Na) ∗ pos c 7 0 ∗ pos c 8 0 ∗ pos c 9 0
        ∗ rowPts m ρ c (peer c 1) fullShare ∗ rowPts m ρ c (peer c 2) fullShare ∗ rowPts m ρ c (peer c 3) fullShare)
      ⊢ iprop((∀ v, (oP c (outAt m ρ c) ∗ ((c : Thread nD τ).loc cc0_scratch2 ↦{fullShare} amAll m ρ) ∗ ow c 11 ∗ pos c 7 1 ∗ pos c 8 1 ∗ pos c 9 1) -∗ Q v)
        -∗ WP c (k0_part10_skel (F := F) xM (Memref.isWhole_whole _) wM (Memref.isWhole_whole _) oM (Memref.isWhole_whole _) cM (Memref.isWhole_whole _) pM (Memref.isWhole_whole _) aM (Memref.isWhole_whole _) cc0_scratch3 cc0_scratch4 cc0_scratch5 cc0_scratch6 cc0_scratch7 cc0_scratch8 c v2) Q) := by
  unfold k0_part10_skel
  simp only [semSignalWord, semWaitWord, Prog.lift, Prog.bind_op, Prog.bind_ret, Prog.pure_eq_ret]
  iintro ⟨#HR, #HL, Ho, HO, Hc1, Hc2, Hc3, Ha1, Ha2, Ha3, Hr1, Hr2, Hr3⟩ Hk
  iapply (step_wait m ρ K c 7 11 0 0 (wpE_waitDma2_eq 𝒱₀ (c : Thread nD τ) none Set.univ) rfl
    (by rw [expect_one m ρ c 7 (r := 0) (by decide) (one_duty c 7 (by decide) (by decide) (ne_arK c 7 (by decide)))]; rfl) (by decide) (by simp [pmts])
    (show _ = rowPts m ρ c c (qs 0) from rest_one m ρ c 7 (r := 0) (by decide) (one_duty c 7 (by decide) (by decide) (ne_arK c 7 (by decide))))) $$ [Hc1 HO Ha1]
  · isplitr; · iexact HR
    isplitr; · iexact HL
    isplitl [Hc1]; · iexact Hc1
    isplitl [HO]; · iexact HO
    iexact Ha1
  iintro ⟨HO, Ha1, -, Hs1⟩
  iapply (step_wait m ρ K c 8 11 0 0 (wpE_waitDma2_eq 𝒱₀ (c : Thread nD τ) none Set.univ) rfl
    (by rw [expect_one m ρ c 8 (r := 0) (by decide) (one_duty c 8 (by decide) (by decide) (ne_arK c 8 (by decide)))]; rfl) (by decide) (by simp [pmts])
    (show _ = rowPts m ρ c c (qs 1) from rest_one m ρ c 8 (r := 0) (by decide) (one_duty c 8 (by decide) (by decide) (ne_arK c 8 (by decide))))) $$ [Hc2 HO Ha2]
  · isplitr; · iexact HR
    isplitr; · iexact HL
    isplitl [Hc2]; · iexact Hc2
    isplitl [HO]; · iexact HO
    iexact Ha2
  iintro ⟨HO, Ha2, -, Hs2⟩
  iapply (step_wait m ρ K c 9 11 0 0 (wpE_waitDma2_eq 𝒱₀ (c : Thread nD τ) none Set.univ) rfl
    (by rw [expect_one m ρ c 9 (r := 0) (by decide) (one_duty c 9 (by decide) (by decide) (ne_arK c 9 (by decide)))]; rfl) (by decide) (by simp [pmts])
    (show _ = rowPts m ρ c c (qs 2) from rest_one m ρ c 9 (r := 0) (by decide) (one_duty c 9 (by decide) (by decide) (ne_arK c 9 (by decide))))) $$ [Hc3 HO Ha3]
  · isplitr; · iexact HR
    isplitr; · iexact HL
    isplitl [Hc3]; · iexact Hc3
    isplitl [HO]; · iexact HO
    iexact Ha3
  iintro ⟨HO, Ha3, -, Hs3⟩
  ihave Hs := (join_row m ρ c) $$ [Hs1 Hs2 Hs3]
  · isplitl [Hs1]; · iexact Hs1
    isplitl [Hs2]; · iexact Hs2
    iexact Hs3
  ihave Ha := (join_rows m ρ c) $$ [Hs Hr1 Hr2 Hr3]
  · isplitl [Hs]; · iexact Hs
    isplitl [Hr1]; · iexact Hr1
    isplitl [Hr2]; · iexact Hr2
    iexact Hr3
  iapply (load_a c (amAll m ρ)) $$ Ha; iintro Ha
  iapply (load_o c (yAt m ρ c)) $$ Ho; iintro Ho
  iapply (load_o c (yAt m ρ c)) $$ Ho; iintro Ho
  iapply (store_o c (yAt m ρ c) (outAt m ρ c) rfl) $$ Ho; iintro Ho
  iapply (wp_done c _)
  iapply Hk
  isplitl [Ho]; · iexact Ho
  isplitl [Ha]; · iexact Ha
  isplitl [HO]; · iexact HO
  isplitl [Ha1]; · iexact Ha1
  isplitl [Ha2]; · iexact Ha2
  iexact Ha3

/-! ## The whole body -/

/-- What device `c` may wait for, from the launch on: what the others pay it. -/
def creds (c : Dev nD) : sProp 𝕄 :=
  iprop(cred (tallyAt (kcell (c, 2)) 1 3) ∗ cred (tallyAt (kcell (c, 6)) 2 N) ∗ cred (tallyAt (kcell (c, 0)) 3 1) ∗ cred (tallyAt (kcell (c, 5)) 4 N)
    ∗ cred (tallyAt (kcell (c, 0)) 5 1) ∗ cred (tallyAt (kcell (c, 6)) 6 N)
    ∗ cred (tallyAt (kcell (c, arK (peer c 1))) 7 Na) ∗ cred (tallyAt (kcell (c, arK (peer c 2))) 7 Na) ∗ cred (tallyAt (kcell (c, arK (peer c 3))) 7 Na)
    ∗ cred (tallyAt (kcell (c, 1)) 8 3))

/-- The duties device `c` pays. -/
def toks (c : Dev nD) : sProp 𝕄 :=
  iprop(tok (peer c 1) 2 0 1 ∗ tok (peer c 2) 2 0 2 ∗ tok (peer c 3) 2 0 3 ∗ tok (peer c 1) 1 0 1 ∗ tok (peer c 2) 1 0 2 ∗ tok (peer c 3) 1 0 3
    ∗ tok c 3 0 0 ∗ tok c 3 1 0 ∗ tok c 4 0 0 ∗ tok (nxt c) 6 0 0 ∗ tok (nxt c) 6 1 0 ∗ tok (nxt c) 5 0 0 ∗ tok (prv c) 0 0 0 ∗ tok (prv c) 0 1 0
    ∗ tok c 7 0 0 ∗ tok c 8 0 0 ∗ tok c 9 0 0 ∗ tok (peer c 1) (arK c) 0 0 ∗ tok (peer c 2) (arK c) 0 0 ∗ tok (peer c 3) (arK c) 0 0)

/-- Device `c`'s position at each of its cells; the last is the cell of its own row, which nobody uses. -/
def posAt (c : Dev nD) (R : Fin 14 → ℕ) : sProp 𝕄 :=
  iprop(pos c 0 (R 0) ∗ pos c 1 (R 1) ∗ pos c 2 (R 2) ∗ pos c 3 (R 3) ∗ pos c 4 (R 4) ∗ pos c 5 (R 5) ∗ pos c 6 (R 6) ∗ pos c 7 (R 7) ∗ pos c 8 (R 8) ∗ pos c 9 (R 9)
    ∗ pos c (arK (peer c 1)) (R 10) ∗ pos c (arK (peer c 2)) (R 11) ∗ pos c (arK (peer c 3)) (R 12) ∗ pos c (arK c) 0)

/-- The cells of device `c` one by one. -/
theorem cells_eq (c : Dev nD) (Φ : Fin 14 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ (arK (peer c 1)) ∗ Φ (arK (peer c 2)) ∗ Φ (arK (peer c 3)) ∗ Φ (arK c)) :=
  bigSep_univ_eq_bigSepL [0, 1, 2, 3, 4, 5, 6, 7, 8, 9, arK (peer c 1), arK (peer c 2), arK (peer c 3), arK c] (by revert c; decide +kernel) (by revert c; decide +kernel) Φ

/-- Every counter of device `c`'s at zero. -/
def sems (c : Dev nD) : sProp 𝕄 := bigSep Finset.univ fun k : Fin 14 => semVal (kcell (c, k)) 0

/-- The cell of a device's own row has no duty in any round. -/
theorem close_own (c : Dev nD) : iprop(records m ρ K ∗ pos c (arK c) 0) ⊢ iprop(|={Set.univ}=> semVal (kcell (c, arK c)) 0) := by
  iintro ⟨#HR, Hat⟩
  ihave HI := (record_at m ρ K (c, arK c)) $$ HR
  icases HI with ⟨#HI, -⟩
  iapply (Rounds.cell_close ER (ringRd m ρ) (Set.mem_univ (K (c, arK c))) (fun h => h) (R := 0) (fun r' _ => by
    rw [duties_at, show dutySet c (arK c) = ∅ from (if_neg ((by decide : ∀ c : Dev nD, ¬ (arK c = 1 ∨ arK c = 2)) c)).trans (if_pos rfl), ite_self]))
  isplitr; · iexact HI
  iexact Hat

theorem close_all (c : Dev nD) : iprop(records m ρ K ∗ posAt c rds) ⊢ iprop(|={Set.univ}=> sems c) := by
  unfold posAt sems
  rw [cells_eq c]
  iintro ⟨#HR, HPOS⟩
  icases HPOS with ⟨Hp0, Hp1, Hp2, Hp3, Hp4, Hp5, Hp6, Hp7, Hp8, Hp9, Hp10, Hp11, Hp12, Hp13⟩
  imod (step_close m ρ K c 0 (rds 0) le_rfl) $$ [Hp0] with Hp0
  · isplitr; · iexact HR
    iexact Hp0
  imod (step_close m ρ K c 1 (rds 1) le_rfl) $$ [Hp1] with Hp1
  · isplitr; · iexact HR
    iexact Hp1
  imod (step_close m ρ K c 2 (rds 2) le_rfl) $$ [Hp2] with Hp2
  · isplitr; · iexact HR
    iexact Hp2
  imod (step_close m ρ K c 3 (rds 3) le_rfl) $$ [Hp3] with Hp3
  · isplitr; · iexact HR
    iexact Hp3
  imod (step_close m ρ K c 4 (rds 4) le_rfl) $$ [Hp4] with Hp4
  · isplitr; · iexact HR
    iexact Hp4
  imod (step_close m ρ K c 5 (rds 5) le_rfl) $$ [Hp5] with Hp5
  · isplitr; · iexact HR
    iexact Hp5
  imod (step_close m ρ K c 6 (rds 6) le_rfl) $$ [Hp6] with Hp6
  · isplitr; · iexact HR
    iexact Hp6
  imod (step_close m ρ K c 7 (rds 7) le_rfl) $$ [Hp7] with Hp7
  · isplitr; · iexact HR
    iexact Hp7
  imod (step_close m ρ K c 8 (rds 8) le_rfl) $$ [Hp8] with Hp8
  · isplitr; · iexact HR
    iexact Hp8
  imod (step_close m ρ K c 9 (rds 9) le_rfl) $$ [Hp9] with Hp9
  · isplitr; · iexact HR
    iexact Hp9
  imod (step_close m ρ K c (arK (peer c 1)) (rds 10) (by rw [rds_arK]; decide)) $$ [Hp10] with Hp10
  · isplitr; · iexact HR
    iexact Hp10
  imod (step_close m ρ K c (arK (peer c 2)) (rds 11) (by rw [rds_arK]; decide)) $$ [Hp11] with Hp11
  · isplitr; · iexact HR
    iexact Hp11
  imod (step_close m ρ K c (arK (peer c 3)) (rds 12) (by rw [rds_arK]; decide)) $$ [Hp12] with Hp12
  · isplitr; · iexact HR
    iexact Hp12
  imod (close_own m ρ K c) $$ [Hp13] with Hp13
  · isplitr; · iexact HR
    iexact Hp13
  imodintro
  isplitl [Hp0]; · iexact Hp0
  isplitl [Hp1]; · iexact Hp1
  isplitl [Hp2]; · iexact Hp2
  isplitl [Hp3]; · iexact Hp3
  isplitl [Hp4]; · iexact Hp4
  isplitl [Hp5]; · iexact Hp5
  isplitl [Hp6]; · iexact Hp6
  isplitl [Hp7]; · iexact Hp7
  isplitl [Hp8]; · iexact Hp8
  isplitl [Hp9]; · iexact Hp9
  isplitl [Hp10]; · iexact Hp10
  isplitl [Hp11]; · iexact Hp11
  isplitl [Hp12]; · iexact Hp12
  iexact Hp13

/-- What device `c` starts from, less its staged operands and its debts. -/
def start (c : Dev nD) : sProp 𝕄 :=
  iprop(records m ρ K ∗ levAts L lv ∗ creds c ∗ toks c ∗ posAt c (fun _ => 0))

set_option maxHeartbeats 1000000 in
theorem body_run (c : Dev nD) (P₀ Y₀ : FVec F S1024x2048 .f32) (Q : PUnit → sProp 𝕄) :
    iprop(start m ρ K c ∗ xP m ρ c ∗ wP m ρ c ∗ oP c Y₀ ∗ pP c P₀ ∗ free0 c ∗ free1 c
        ∗ freeRow c c ∗ freeRow c (peer c 1) ∗ freeRow c (peer c 2) ∗ freeRow c (peer c 3) ∗ ow c 0)
      ⊢ iprop(((xP m ρ c ∗ wP m ρ c ∗ oP c (outAt m ρ c) ∗ pP c (part2 m ρ c) ∗ free0 c ∗ free1 c ∗ ((c : Thread nD τ).loc cc0_scratch2 ↦{fullShare} amAll m ρ)
          ∗ ow c 14 ∗ sems c) -∗ Q ⟨⟩)
        -∗ WP c (cc0_body (F := F) xM (Memref.isWhole_whole _) wM (Memref.isWhole_whole _) oM (Memref.isWhole_whole _) cM (Memref.isWhole_whole _) pM (Memref.isWhole_whole _) aM (Memref.isWhole_whole _) cc0_scratch3 cc0_scratch4 cc0_scratch5 cc0_scratch6 cc0_scratch7 cc0_scratch8) Q) := by
  rw [cc0_body_eq_skeleton]
  unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, semSignalWord, semWaitWord, Prog.lift, Prog.bind_op, Prog.bind_ret, Prog.pure_eq_ret]
  simp only [wp_bind]
  unfold start creds toks posAt
  iintro ⟨⟨#HR, #HL, ⟨Kb, Kr0, Kc0, Kr1, Kc1, Kr2, Ka1, Ka2, Ka3, Ke⟩, ⟨Hb1, Hb2, Hb3, He1, He2, He3, Hs0, Hs0', Hs1, Hn0, Hn0', Hn1, Hc0, Hc1, Ha1, Ha2, Ha3, Hr1, Hr2, Hr3⟩, ⟨Hp0, Hp1, Hp2, Hp3, Hp4, Hp5, Hp6, Hp7, Hp8, Hp9, Hp10, Hp11, Hp12, Hp13⟩⟩, Hx, Hw, Ho, Hp, Hf0, Hf1, Hq, Hq1, Hq2, Hq3, HO⟩ Hk
  iapply (body1 m ρ K c _) $$ [HO Hb1 Hb2 Hb3 Hq1 Hq2 Hq3 Hf1 Kb Hp2]
  · isplitr; · iexact HR
    isplitr; · iexact HL
    isplitl [HO]; · iexact HO
    isplitl [Hb1]; · iexact Hb1
    isplitl [Hb2]; · iexact Hb2
    isplitl [Hb3]; · iexact Hb3
    isplitl [Hq1]; · iexact Hq1
    isplitl [Hq2]; · iexact Hq2
    isplitl [Hq3]; · iexact Hq3
    isplitl [Hf1]; · iexact Hf1
    isplitl [Kb]; · iexact Kb
    iexact Hp2
  iintro %v2 %v4 %v7 ⟨HO, Hp2, Hq1, Hq2, Hq3, Hf1⟩
  iapply (body2 m ρ K c v2 v4 P₀ _) $$ [Hx Hw Hp Hf0 Hf1 HO Hs0 Hn0]
  · isplitr; · iexact HR
    isplitl [Hx]; · iexact Hx
    isplitl [Hw]; · iexact Hw
    isplitl [Hp]; · iexact Hp
    isplitl [Hf0]; · iexact Hf0
    isplitl [Hf1]; · iexact Hf1
    isplitl [HO]; · iexact HO
    isplitl [Hs0]; · iexact Hs0
    iexact Hn0
  iintro ⟨Hx, Hw, Hp, HO, Ks⟩
  iapply (body3 m ρ K c v4 v7 P₀ _) $$ [Hp HO Ks Kr0 Hp3 Hp6 Hc0]
  · isplitr; · iexact HR
    isplitr; · iexact HL
    isplitl [Hp]; · iexact Hp
    isplitl [HO]; · iexact HO
    isplitl [Ks]; · iexact Ks
    isplitl [Kr0]; · iexact Kr0
    isplitl [Hp3]; · iexact Hp3
    isplitl [Hp6]; · iexact Hp6
    iexact Hc0
  iintro ⟨Hp, Hu, HO, Hp3, Hm3, Hp6, Hm6⟩
  iapply (body4 m ρ K c v2 v4 _ _) $$ [Hx Hw Hp Hu HO Kc0 Hp0 Hs1 Hn1]
  · isplitr; · iexact HR
    isplitr; · iexact HL
    isplitl [Hx]; · iexact Hx
    isplitl [Hw]; · iexact Hw
    isplitl [Hp]; · iexact Hp
    isplitl [Hu]; · iexact Hu
    isplitl [HO]; · iexact HO
    isplitl [Kc0]; · iexact Kc0
    isplitl [Hp0]; · iexact Hp0
    isplitl [Hs1]; · iexact Hs1
    iexact Hn1
  iintro ⟨Hx, Hw, Hp, HO, Ks, Hp0⟩
  iapply (body5 m ρ K c v4 v7 _) $$ [Hp HO Ks Kr1 Kc1 Hp4 Hp5 Hp0 Hc1 Hm6]
  · isplitr; · iexact HR
    isplitr; · iexact HL
    isplitl [Hp]; · iexact Hp
    isplitl [HO]; · iexact HO
    isplitl [Ks]; · iexact Ks
    isplitl [Kr1]; · iexact Kr1
    isplitl [Kc1]; · iexact Kc1
    isplitl [Hp4]; · iexact Hp4
    isplitl [Hp5]; · iexact Hp5
    isplitl [Hp0]; · iexact Hp0
    isplitl [Hc1]; · iexact Hc1
    iexact Hm6
  iintro ⟨Hp, Hu, Hf1, Hm6, HO, Hp4, Hp5, Hp0⟩
  iapply (body6 m ρ K c v2 v4 _ _) $$ [Hx Hw Hp Hu Hf1 HO Hs0' Hm3 Hn0' Hm6 Hp3]
  · isplitr; · iexact HR
    isplitr; · iexact HL
    isplitl [Hx]; · iexact Hx
    isplitl [Hw]; · iexact Hw
    isplitl [Hp]; · iexact Hp
    isplitl [Hu]; · iexact Hu
    isplitl [Hf1]; · iexact Hf1
    isplitl [HO]; · iexact HO
    isplitl [Hs0']; · iexact Hs0'
    isplitl [Hm3]; · iexact Hm3
    isplitl [Hn0']; · iexact Hn0'
    isplitl [Hm6]; · iexact Hm6
    iexact Hp3
  iintro ⟨Hx, Hw, Hp, Hf0, HO, Hp3⟩
  iapply (body7 m ρ K c v2 Y₀ _) $$ [Hp Ho Hq HO Kr2 Hp6]
  · isplitr; · iexact HR
    isplitr; · iexact HL
    isplitl [Hp]; · iexact Hp
    isplitl [Ho]; · iexact Ho
    isplitl [Hq]; · iexact Hq
    isplitl [HO]; · iexact HO
    isplitl [Kr2]; · iexact Kr2
    iexact Hp6
  iintro ⟨Hp, Ho, Hq, Hf1, HO, Hp6⟩
  iapply (body8 m ρ K c v2 _) $$ [Hq Hq1 Hq2 Hq3 HO Ha1 Ha2 Ha3 Hr1 Hr2 Hr3]
  · isplitr; · iexact HR
    isplitl [Hq]; · iexact Hq
    isplitl [Hq1]; · iexact Hq1
    isplitl [Hq2]; · iexact Hq2
    isplitl [Hq3]; · iexact Hq3
    isplitl [HO]; · iexact HO
    isplitl [Ha1]; · iexact Ha1
    isplitl [Ha2]; · iexact Ha2
    isplitl [Ha3]; · iexact Ha3
    isplitl [Hr1]; · iexact Hr1
    isplitl [Hr2]; · iexact Hr2
    iexact Hr3
  iintro ⟨HO, K1, K2, K3⟩
  iapply (body9 m ρ K c v2 _) $$ [HO Ka1 Ka2 Ka3 Hp10 Hp11 Hp12]
  · isplitr; · iexact HR
    isplitr; · iexact HL
    isplitl [HO]; · iexact HO
    isplitl [Ka1]; · iexact Ka1
    isplitl [Ka2]; · iexact Ka2
    isplitl [Ka3]; · iexact Ka3
    isplitl [Hp10]; · iexact Hp10
    isplitl [Hp11]; · iexact Hp11
    iexact Hp12
  iintro ⟨HO, Hp10, Hp11, Hp12, Hq1, Hq2, Hq3⟩
  iapply (body10 m ρ K c v2 _) $$ [Ho HO K1 K2 K3 Hp7 Hp8 Hp9 Hq1 Hq2 Hq3]
  · isplitr; · iexact HR
    isplitr; · iexact HL
    isplitl [Ho]; · iexact Ho
    isplitl [HO]; · iexact HO
    isplitl [K1]; · iexact K1
    isplitl [K2]; · iexact K2
    isplitl [K3]; · iexact K3
    isplitl [Hp7]; · iexact Hp7
    isplitl [Hp8]; · iexact Hp8
    isplitl [Hp9]; · iexact Hp9
    isplitl [Hq1]; · iexact Hq1
    isplitl [Hq2]; · iexact Hq2
    iexact Hq3
  iintro %v ⟨Ho, Ha, HO, Hp7, Hp8, Hp9⟩
  ihave HH1 := (record_at m ρ K (peer c 1, 1)) $$ HR
  icases HH1 with ⟨-, #HH1⟩
  iapply (step_signal m ρ K c (peer c 1) _ (dev12_eq c) 1 11 0 1 rfl 8 rfl rfl (by decide) (mem_three _ 1 (.inl rfl) _ (by decide))) $$ [HO He1]
  · isplitr; · iexact HR
    isplitl [HO]; · iexact HO
    isplitl [He1]; · iexact He1
    isplitr; · (rw [pay_exit]; iempintro)
    iexact HH1
  iintro HO
  ihave HH2 := (record_at m ρ K (peer c 2, 1)) $$ HR
  icases HH2 with ⟨-, #HH2⟩
  iapply (step_signal m ρ K c (peer c 2) _ (dev13_eq c) 1 12 0 2 rfl 8 rfl rfl (by decide) (mem_three _ 1 (.inl rfl) _ (by decide))) $$ [HO He2]
  · isplitr; · iexact HR
    isplitl [HO]; · iexact HO
    isplitl [He2]; · iexact He2
    isplitr; · (rw [pay_exit]; iempintro)
    iexact HH2
  iintro HO
  ihave HH3 := (record_at m ρ K (peer c 3, 1)) $$ HR
  icases HH3 with ⟨-, #HH3⟩
  iapply (step_signal m ρ K c (peer c 3) _ (dev14_eq c) 1 13 0 3 rfl 8 rfl rfl (by decide) (mem_three _ 1 (.inl rfl) _ (by decide))) $$ [HO He3]
  · isplitr; · iexact HR
    isplitl [HO]; · iexact HO
    isplitl [He3]; · iexact He3
    isplitr; · (rw [pay_exit]; iempintro)
    iexact HH3
  iintro HO
  iapply (step_wait m ρ K c 1 14 0 8 (wpE_semWait_eq 𝒱₀ (c : Thread nD τ) none Set.univ) rfl
    (by rw [expect_three m ρ c 1 rfl]; rfl) (by decide) (by simp [pmts]) (rest_exit m ρ c)) $$ [Ke HO Hp1]
  · isplitr; · iexact HR
    isplitr; · iexact HL
    isplitl [Ke]; · iexact Ke
    isplitl [HO]; · iexact HO
    iexact Hp1
  iintro ⟨HO, Hp1, -, -⟩
  imod (close_all m ρ K c) $$ [Hp0 Hp1 Hp2 Hp3 Hp4 Hp5 Hp6 Hp7 Hp8 Hp9 Hp10 Hp11 Hp12 Hp13] with Hz
  · isplitr; · iexact HR
    unfold posAt
    isplitl [Hp0]; · iexact Hp0
    isplitl [Hp1]; · iexact Hp1
    isplitl [Hp2]; · iexact Hp2
    isplitl [Hp3]; · iexact Hp3
    isplitl [Hp4]; · iexact Hp4
    isplitl [Hp5]; · iexact Hp5
    isplitl [Hp6]; · iexact Hp6
    isplitl [Hp7]; · iexact Hp7
    isplitl [Hp8]; · iexact Hp8
    isplitl [Hp9]; · iexact Hp9
    isplitl [Hp10]; · iexact Hp10
    isplitl [Hp11]; · iexact Hp11
    isplitl [Hp12]; · iexact Hp12
    iexact Hp13
  iapply (wp_done c _)
  iapply Hk
  isplitl [Hx]; · iexact Hx
  isplitl [Hw]; · iexact Hw
  isplitl [Ho]; · iexact Ho
  isplitl [Hp]; · iexact Hp
  isplitl [Hf0]; · iexact Hf0
  isplitl [Hf1]; · iexact Hf1
  isplitl [Ha]; · iexact Ha
  isplitl [HO]; · iexact HO
  iexact Hz

end Body

end Cert.KernelIdeal.RingProof

end
-- ==== Proof.Run.lean ====
/-
The kernel's launch on the four devices and its run.
-/
module

public import proofs.«01_k».proof.Proof.Body2
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.CollectiveSegs
public import Idealize.ShloMosaic.Lib.Tactic

@[expose] public section

noncomputable section

namespace Cert.KernelIdeal.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## The proof data of the one grid point -/

/-- A staging buffer holding given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The kernel's scratch buffers, at some contents. -/
def scr (c : Dev nD) : sProp 𝕄 :=
  iprop((∃ f : Buf (Elt F) ((c : Thread nD τ).loc cc0_scratch0), (c : Thread nD τ).loc cc0_scratch0 ↦{fullShare} f)
    ∗ (∃ f : Buf (Elt F) ((c : Thread nD τ).loc cc0_scratch1), (c : Thread nD τ).loc cc0_scratch1 ↦{fullShare} f)
    ∗ (∃ f : Buf (Elt F) ((c : Thread nD τ).loc cc0_scratch2), (c : Thread nD τ).loc cc0_scratch2 ↦{fullShare} f))

def Φ₀ (c : Dev nD) : sProp 𝕄 := iprop((∃ K, start m ρ K c) ∗ scr c)
def Φ₁ (c : Dev nD) : sProp 𝕄 := iprop(scr c ∗ sems c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => Φ₀ m ρ c
    | ⟨_ + 1, _⟩ => Φ₁ (F := F) c
  q _ := fullShare
  owed t := match t with
    | ⟨0, _⟩ => owed 0 c
    | ⟨_ + 1, _⟩ => owed 14 c

omit [FloatOps F] in
theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄) = stg c b X := by
  unfold owns; simp only [Memref.view_whole, View.read_whole, View.set_whole]

set_option maxRecDepth 4000 in
def bodyPre (c : Dev nD) : sProp 𝕄 :=
  iprop(Φ₀ m ρ c ∗ (dats m ρ 0 c).owesAt 0 t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ (F := F) c ∗ (dats m ρ 0 c).owesAt 0 t0_0.succ ∗ stg c cc0_stg0_0 (xstg m ρ c) ∗ stg c cc0_stg1_0 (wstg m ρ c) ∗ stg c cc0_stg2_0 (outAt m ρ c))

theorem sound_body (c : Dev nD) :
    bodyPre m ρ c ⊢ WP c (cc0_body (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8) (fun _ => bodyPost m ρ c) := by
  unfold bodyPre Φ₀ scr
  iintro ⟨⟨⟨%K, Hst⟩, ⟨%f0, Hcm⟩, ⟨%f1, Hp⟩, ⟨%f2, Hr⟩⟩, Ho, ⟨%d0, %g0, %hg0, Hx⟩, ⟨%d1, %g1, %hg1, Hw⟩, ⟨%d2, %g2, %hg2, Hout⟩⟩
  have hx : g0 = xstg m ρ c := by rw [hg0]; unfold Dat.before; rw [if_pos (fetch0_0 t0_0)]; rfl
  have hw : g1 = wstg m ρ c := by rw [hg1]; unfold Dat.before; rw [if_pos (fetch0_1 t0_0)]; rfl
  subst hx hw
  unfold Dat.owesAt Pipeline.owesWithin
  icases Ho with ⟨%W, %hW, HO⟩
  rw [show (dats m ρ 0 c).owed t0_0.castSucc = owed 0 c from rfl]
  ihave Hcm := (split_comm c f0) $$ Hcm
  icases Hcm with ⟨Hf0, Hf1⟩
  ihave Hr := (split_rows c f2) $$ Hr
  icases Hr with ⟨Hq0, Hq1, Hq2, Hq3⟩
  iapply (body_run m ρ K c f1 g2 (fun _ => bodyPost m ρ c)) $$ [Hst Hx Hw Hout Hp Hf0 Hf1 Hq0 Hq1 Hq2 Hq3 HO]
  · isplitl [Hst]; · iexact Hst
    isplitl [Hx]; · iexact Hx
    isplitl [Hw]; · iexact Hw
    isplitl [Hout]; · iexact Hout
    isplitl [Hp]; · iexact Hp
    isplitl [Hf0]; · iexact Hf0
    isplitl [Hf1]; · iexact Hf1
    isplitl [Hq0]; · iexact Hq0
    isplitl [Hq1]; · iexact Hq1
    isplitl [Hq2]; · iexact Hq2
    isplitl [Hq3]; · iexact Hq3
    unfold ow; iexists W; iexact HO
  unfold bodyPost Φ₁ scr ow
  iintro ⟨Hx, Hw, Ho, Hp, Hf0, Hf1, Ha, ⟨%W', HO⟩, Hz⟩
  unfold Dat.owesAt Pipeline.owesWithin
  rw [show (dats m ρ 0 c).owed t0_0.succ = owed 14 c from rfl]
  isplitl [Hf0 Hf1 Hp Ha Hz]
  · isplitl [Hf0 Hf1 Hp Ha]
    · isplitl [Hf0 Hf1]
      · iapply (join_comm c)
        isplitl [Hf0] <;> iassumption
      isplitl [Hp]
      · iexists (part2 m ρ c); iexact Hp
      iexists (amAll m ρ); iexact Ha
    iexact Hz
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Ho

set_option maxRecDepth 4000 in
/-- The library's body obligation on core `c`. -/
theorem body_obligation (c : Dev nD) : BodyObligation (dats (F := F) m ρ 0 c) (defs₀ (F := F)) 𝒱₀ 0 Set.univ := fun t => by
  rw [fin_N0 t]
  rw [bigSep_W0, bigSep_W0]
  simp only [owns_whole_eq]
  show bodyPre m ρ c ⊢ WP c (cc0_body (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8) (fun _ => bodyPost m ρ c)
  exact sound_body m ρ c

/-! ## The launch -/

/-- The kernel's own semaphores: all but the barrier's. -/
abbrev osem : Fin 13 → SemLoc sig := fun i => csem (Fin.succAbove 2 i)
theorem ownSemFacts : Pipeline.OwnSemFacts cfg0.spec osem := by decide +kernel

theorem share_eq (c : Dev nD) (w : Fin cfg0.W) : (dats m ρ 0 c).share w = fullShare := by unfold Dat.share; split <;> rfl

def ringCells : Finset (GSem nD τ sig) := Finset.univ.map ⟨kcell, kcell_injective⟩

/-- The duties of device `c`'s own cells: cell, round, duty. -/
def tokAt (c : Dev nD) : Fin 20 → Fin 14 × ℕ × Fin 4 :=
  ![(2, 0, 1), (2, 0, 2), (2, 0, 3), (1, 0, 1), (1, 0, 2), (1, 0, 3), (3, 0, 0), (3, 1, 0), (4, 0, 0), (6, 0, 0), (6, 1, 0), (5, 0, 0), (0, 0, 0), (0, 1, 0), (7, 0, 0), (8, 0, 0), (9, 0, 0), ((arK (peer c 3)), 0, 0), ((arK (peer c 2)), 0, 0), ((arK (peer c 1)), 0, 0)]

theorem tokAt_injective (c : Dev nD) : Function.Injective (tokAt c) := by revert c; decide +kernel
def tokOf (cj : Dev nD × Fin 20) : GSem nD τ sig × ℕ × Fin 4 := (kcell (cj.1, (tokAt cj.1 cj.2).1), (tokAt cj.1 cj.2).2)
theorem tokOf_injective : Function.Injective tokOf := by
  rintro ⟨c, j⟩ ⟨c', j'⟩ h
  have h1 := kcell_injective (congrArg Prod.fst h)
  have hc : c = c' := congrArg Prod.fst h1
  subst hc
  have h2 : (tokAt c j).2 = (tokAt c j').2 := congrArg (fun x : GSem nD τ sig × ℕ × Fin 4 => x.2) h
  have h3 : (tokAt c j).1 = (tokAt c j').1 := congrArg Prod.snd h1
  exact congrArg (Prod.mk c) (tokAt_injective c (Prod.ext h3 h2))
def ringToks : Finset (GSem nD τ sig × ℕ × Fin 4) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def ownToks (c : Dev nD) : sProp 𝕄 :=
  iprop(tok c 2 0 1 ∗ tok c 2 0 2 ∗ tok c 2 0 3 ∗ tok c 1 0 1 ∗ tok c 1 0 2 ∗ tok c 1 0 3 ∗ tok c 3 0 0 ∗ tok c 3 1 0 ∗ tok c 4 0 0 ∗ tok c 6 0 0 ∗ tok c 6 1 0 ∗ tok c 5 0 0 ∗ tok c 0 0 0 ∗ tok c 0 1 0 ∗ tok c 7 0 0 ∗ tok c 8 0 0 ∗ tok c 9 0 0 ∗ tok c (arK (peer c 3)) 0 0 ∗ tok c (arK (peer c 2)) 0 0 ∗ tok c (arK (peer c 1)) 0 0)

/-- What the launch element deals device `c`. -/
def G (c : Dev nD) : sProp 𝕄 :=
  iprop((bigSep Finset.univ fun k : Fin 14 => roundState ER (ringRd m ρ) (kcell (c, k)) 0)
    ∗ (bigSep Finset.univ fun k : Fin 14 => iprop(atPos ER (kcell (c, k)) 0 ∅ 0 ∗ reached ER (kcell (c, k)) 0)) ∗ ownToks c)

/-- What the step over all devices makes of it. -/
def G' (c : Dev nD) : sProp 𝕄 := iprop(∃ K, records m ρ K ∗ toks c ∗ posAt c (fun _ => 0))

omit [FloatOps F] in
theorem toks_eq (Φ : Fin 20 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19) :=
  bigSep_univ_eq_bigSepL [0, 1, 2, 3, 4, 5, 6, 7, 8, 9, 10, 11, 12, 13, 14, 15, 16, 17, 18, 19] (by decide +kernel) (by decide +kernel) Φ

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 14 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => ownToks c := by
    unfold ringToks; rw [bigSep_map, bigSep_univ_prod]
    exact bigSep_congr fun c _ => by unfold ownToks; rw [toks_eq]; rfl
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := ℕ) (Name := ℕ) (U := UU) (Lvl := ℕ) (Val := Elt F) (τ := τ) osem c : sProp 𝕄)
    = iprop(semVal (kcell (c, 0)) 0 ∗ semVal (kcell (c, 1)) 0 ∗ semVal (kcell (c, 3)) 0 ∗ semVal (kcell (c, 4)) 0 ∗ semVal (kcell (c, 5)) 0 ∗ semVal (kcell (c, 6)) 0 ∗ semVal (kcell (c, 7)) 0 ∗ semVal (kcell (c, 8)) 0 ∗ semVal (kcell (c, 9)) 0 ∗ semVal (kcell (c, 10)) 0 ∗ semVal (kcell (c, 11)) 0 ∗ semVal (kcell (c, 12)) 0 ∗ semVal (kcell (c, 13)) 0) := by
  rw [Pipeline.ownSems0_eq_of_list c osem [0, 1, 2, 3, 4, 5, 6, 7, 8, 9, 10, 11, 12] (by decide) (by decide)]; rfl
omit [FloatOps F] in
/-- The barrier semaphore is the launch's one unscoped semaphore. -/
theorem unscopedSems0_eq (c : Dev nD) : (unscopedSems0 c : sProp 𝕄) = semVal (kcell (c, 2)) 0 := by
  unfold unscopedSems0; rw [bigSep_eq_bigSepL_of_eq [csem 2] (by decide +kernel) (by decide)]; rfl

omit [FloatOps F] in
theorem fin14 (Φ : Fin 14 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) :=
  bigSep_univ_eq_bigSepL [0, 1, 2, 3, 4, 5, 6, 7, 8, 9, 10, 11, 12, 13] (by decide) (by decide) Φ

omit [FloatOps F] in
theorem sems_join (c : Dev nD) :
    iprop(Pipeline.ownSems0 (Ix := ℕ) (Name := ℕ) (U := UU) (Lvl := ℕ) (Val := Elt F) (τ := τ) osem c ∗ unscopedSems0 c) ⊢ (sems c : sProp 𝕄) := by
  unfold sems
  rw [ownSems0_eq, unscopedSems0_eq, fin14]
  iintro ⟨⟨H0, H1, H3, H4, H5, H6, H7, H8, H9, H10, H11, H12, H13⟩, H2⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13
omit [FloatOps F] in
theorem sems_split (c : Dev nD) :
    (sems c : sProp 𝕄) ⊢ iprop(unscopedSems0 c ∗ Pipeline.ownSems0 (Ix := ℕ) (Name := ℕ) (U := UU) (Lvl := ℕ) (Val := Elt F) (τ := τ) osem c) := by
  unfold sems
  rw [ownSems0_eq, unscopedSems0_eq, fin14]
  iintro ⟨H0, H1, H2, H3, H4, H5, H6, H7, H8, H9, H10, H11, H12, H13⟩
  isplitl [H2]; · iexact H2
  isplitl [H0]; · iexact H0
  isplitl [H1]; · iexact H1
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem core_alloc (c : Dev nD) :
    iprop(Pipeline.ownSems0 (Ix := ℕ) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ ownToks c) := by
  unfold G
  iintro ⟨Hos, Hus, Hst, Hat, Htok⟩
  ihave Hv := (sems_join (F := F) c) $$ [Hos Hus]
  · isplitl [Hos] <;> iassumption
  imod (show iprop(sems c ∗ bigSep Finset.univ fun k : Fin 14 => roundState ER (ringRd m ρ) (kcell (c, k)) 0)
      ⊢ (|={Set.univ}=> bigSep Finset.univ fun k => iprop(∃ κ : ℕ, cellInv ER (ringRd m ρ) κ (kcell (c, k))) : sProp 𝕄) from by
        unfold sems
        rw [← bigSep_sep']
        exact (bigSep_mono fun k _ => (Rounds.body_intro ER (ringRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- One duty's tokens dealt `k` devices down the ring. -/
theorem deal (k l : ℕ) (h : (k + l) % 4 = 0) (Φ Ψ : Dev nD → sProp 𝕄) (hΦ : ∀ c, Φ (peer c k) = Ψ c) : bigSep Finset.univ Φ ⊢ bigSep Finset.univ Ψ :=
  Entails.of_eq ((bigSep_univ_equiv (rot k l h) Φ).trans (bigSep_congr fun c _ => hΦ c))

omit [FloatOps F] in
/-- The tokens dealt to the devices that pay the duties. -/
theorem toks_around : (bigSep Finset.univ fun c : Dev nD => (ownToks c : sProp 𝕄)) ⊢ bigSep Finset.univ fun c : Dev nD => toks c := by
  unfold ownToks toks
  simp only [bigSep_sep']
  iintro ⟨H0, H1, H2, H3, H4, H5, H6, H7, H8, H9, H10, H11, H12, H13, H14, H15, H16, H17, H18, H19⟩
  isplitl [H0]; · (iapply (deal 1 3 rfl (fun c => tok c 2 0 1) _ fun c => rfl); iexact H0)
  isplitl [H1]; · (iapply (deal 2 2 rfl (fun c => tok c 2 0 2) _ fun c => rfl); iexact H1)
  isplitl [H2]; · (iapply (deal 3 1 rfl (fun c => tok c 2 0 3) _ fun c => rfl); iexact H2)
  isplitl [H3]; · (iapply (deal 1 3 rfl (fun c => tok c 1 0 1) _ fun c => rfl); iexact H3)
  isplitl [H4]; · (iapply (deal 2 2 rfl (fun c => tok c 1 0 2) _ fun c => rfl); iexact H4)
  isplitl [H5]; · (iapply (deal 3 1 rfl (fun c => tok c 1 0 3) _ fun c => rfl); iexact H5)
  isplitl [H6]; · iexact H6
  isplitl [H7]; · iexact H7
  isplitl [H8]; · iexact H8
  isplitl [H9]; · (iapply (deal 1 3 rfl (fun c => tok c 6 0 0) _ fun c => rfl); iexact H9)
  isplitl [H10]; · (iapply (deal 1 3 rfl (fun c => tok c 6 1 0) _ fun c => rfl); iexact H10)
  isplitl [H11]; · (iapply (deal 1 3 rfl (fun c => tok c 5 0 0) _ fun c => rfl); iexact H11)
  isplitl [H12]; · (iapply (deal 3 1 rfl (fun c => tok c 0 0 0) _ fun c => rfl); iexact H12)
  isplitl [H13]; · (iapply (deal 3 1 rfl (fun c => tok c 0 1 0) _ fun c => rfl); iexact H13)
  isplitl [H14]; · iexact H14
  isplitl [H15]; · iexact H15
  isplitl [H16]; · iexact H16
  isplitl [H17]; · (iapply (deal 1 3 rfl (fun c => tok c (arK (peer c 3)) 0 0) _ fun c => by rw [peer_peer c 1 3 rfl]); iexact H17)
  isplitl [H18]; · (iapply (deal 2 2 rfl (fun c => tok c (arK (peer c 2)) 0 0) _ fun c => by rw [peer_peer c 2 2 rfl]); iexact H18)
  iapply (deal 3 1 rfl (fun c => tok c (arK (peer c 1)) 0 0) _ fun c => by rw [peer_peer c 3 1 rfl])
  iexact H19

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ ownToks c) : sProp 𝕄)
      ⊢ bigSep Finset.univ (G' m ρ) := by
  rw [bigSep_sep', bigSep_sep', ← bigSep_univ_prod (fun ck : Dev nD × Fin 14 => iprop(∃ κ : ℕ, cellInv ER (ringRd m ρ) κ (kcell ck))),
    bigSep_congr (s := Finset.univ) (fun (c : Dev nD) _ => bigSep_sep' Finset.univ (fun k : Fin 14 => (atPos ER (kcell (c, k)) 0 ∅ 0 : sProp 𝕄)) (fun k => reached ER (kcell (c, k)) 0)),
    bigSep_sep', ← bigSep_univ_prod (fun ck : Dev nD × Fin 14 => (reached ER (kcell ck) 0 : sProp 𝕄))]
  iintro ⟨HI, ⟨Hat, #HR⟩, Htok⟩
  ihave HK := (BI.bigSep_exists_pi Finset.univ (fun (ck : Dev nD × Fin 14) (κ : ℕ) => (cellInv ER (ringRd m ρ) κ (kcell ck) : sProp 𝕄))) $$ HI
  icases HK with ⟨%K, #HI⟩
  ihave Htk := (toks_around (F := F)) $$ Htok
  iapply (bigSep_with_persistent (R := records m ρ K) (Φ := fun c => iprop((bigSep Finset.univ fun k : Fin 14 => (atPos ER (kcell (c, k)) 0 ∅ 0 : sProp 𝕄)) ∗ toks c)) fun c _ => by
    unfold G' posAt
    rw [cells_eq c]
    iintro ⟨HR, Ha, Ht⟩
    iexists K
    isplitl [HR]; · iexact HR
    isplitl [Ht]; · iexact Ht
    iexact Ha)
  isplitr
  · unfold records
    rw [bigSep_sep']
    isplitl; · iexact HI
    iexact HR
  · rw [bigSep_sep']
    isplitl [Hat]; · iexact Hat
    iexact Htk

/-- The step over all devices' own and unscoped semaphores at once. -/
theorem glob : (bigSep Finset.univ fun c => iprop(Pipeline.ownSems0 (Ix := ℕ) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

omit [FloatOps F] in
/-- A payment all devices owe is, for each device, a credit on its own cell. -/
theorem launch_pmt (p : Pmt) (h : (p.ahead + p.back) % 4 = 0) (h' : (p.back + p.ahead) % 4 = 0) (c : Dev nD) :
    (Pipeline.launchCred (fun d => p.tally d) c : sProp 𝕄) ⊢ cred (tallyAt (kcell (c, p.cell (peer c p.back))) p.level p.amt) := by
  refine (Pipeline.launchCred_elim _ c (csem (p.cell (peer c p.back)))).trans (Entails.of_eq (congrArg cred ?_))
  rw [Pipeline.tallyOn_launchCredit_owing]
  unfold Pmt.tally tallyAt
  refine congrArg _ ?_
  rw [Finset.sum_apply, Finset.sum_eq_single (peer c p.back) (fun d _ hd => ?_) (fun hn => absurd (Finset.mem_univ _) hn)]
  · rw [peer_peer c p.back p.ahead h']
    unfold tallyOn
    rw [Pi.single_eq_same]
  · unfold tallyOn
    refine Pi.single_eq_of_ne (fun e => hd ?_) _
    have e1 : c = peer d p.ahead := congrArg (fun g : GSem nD τ sig => g.1.1) e
    rw [e1, peer_peer d p.ahead p.back h]

/-- The credits of a list of payments, the last first. -/
def credL (c : Dev nD) : List Pmt → sProp 𝕄
  | [] => iprop(emp)
  | p :: l => iprop(credL c l ∗ cred (tallyAt (kcell (c, p.cell (peer c p.back))) p.level p.amt))

omit [FloatOps F] in
theorem launch_list (c : Dev nD) : ∀ l : List Pmt, (∀ p ∈ l, (p.ahead + p.back) % 4 = 0) → (Pipeline.launchCred (owing l) c : sProp 𝕄) ⊢ credL c l
  | [], _ => (Entails.of_eq (Pipeline.launchCred_zero c))
  | p :: l, h => by
    have e : (Pipeline.launchCred (owing (p :: l)) c : sProp 𝕄) = Pipeline.launchCred (fun d => owing l d + p.tally d) c := rfl
    rw [e, Pipeline.launchCred_add]
    exact BIClass.sep_mono (launch_list c l fun q hq => h q (List.mem_cons_of_mem _ hq))
      (launch_pmt p (h p List.mem_cons_self) (by rw [Nat.add_comm]; exact h p List.mem_cons_self) c)

omit [FloatOps F] in
theorem three (g : GSem nD τ sig) (i : ℕ) : (iprop(cred (tallyAt g i 1) ∗ cred (tallyAt g i 1) ∗ cred (tallyAt g i 1)) : sProp 𝕄) ⊢ cred (tallyAt g i 3) := by
  rw [show (3 : ℕ) = 1 + (1 + 1) from rfl, ← tallyAt_add, ← tallyAt_add]
  exact (sep_mono_right (cred_add _ _).2).trans (cred_add _ _).2

omit [FloatOps F] in
theorem creds_intro (c : Dev nD) : (Pipeline.launchCred (owed 0) c : sProp 𝕄) ⊢ creds c := by
  refine (launch_list c pmts (by simp [pmts])).trans ?_
  simp only [pmts, credL]
  unfold creds
  iintro ⟨⟨⟨⟨⟨⟨⟨⟨⟨⟨⟨⟨⟨⟨-, He3⟩, He2⟩, He1⟩, Ha1⟩, Ha2⟩, Ha3⟩, Hr2⟩, Hc1⟩, Hr1⟩, Hc0⟩, Hr0⟩, Hb1⟩, Hb2⟩, Hb3⟩
  isplitl [Hb1 Hb2 Hb3]
  · iapply (three (kcell (c, 2)) 1)
    isplitl [Hb1]; · iexact Hb1
    isplitl [Hb2] <;> iassumption
  isplitl [Hr0]; · iexact Hr0
  isplitl [Hc0]; · iexact Hc0
  isplitl [Hr1]; · iexact Hr1
  isplitl [Hc1]; · iexact Hc1
  isplitl [Hr2]; · iexact Hr2
  isplitl [Ha1]; · iexact Ha1
  isplitl [Ha2]; · iexact Ha2
  isplitl [Ha3]; · iexact Ha3
  iapply (three (kcell (c, 1)) 8)
  isplitl [He1]; · iexact He1
  isplitl [He2] <;> iassumption

/-! ### The theorem's side conditions -/

theorem start_intro (c : Dev nD) :
    iprop(Pipeline.unscopedRestP Pipeline.Prefetch.none cfg0.spec c (fun b => m ((c : Thread nD τ).loc b)) ∗ levAts L lv
        ∗ Pipeline.launchCred (owed 0) c ∗ prngReg c (ρ c) ∗ G' m ρ c)
      ⊢ |={Set.univ}=> iprop((∃ K, start m ρ K c) ∗ emp) := by
  iintro ⟨-, Hlev, Hcr, -, HG⟩
  ihave Hc := (creds_intro (F := F) c) $$ Hcr
  imodintro
  unfold start G'
  icases HG with ⟨%K, HR, Ht, Ha⟩
  isplitl
  · iexists K
    isplitl [HR]; · iexact HR
    isplitl [Hlev]; · iexact Hlev
    isplitl [Hc]; · iexact Hc
    isplitl [Ht]; · iexact Ht
    iexact Ha
  · iempintro

theorem phi0_intro (c : Dev nD) :
    iprop((∃ K, start m ρ K c) ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, show (Pipeline.scopedRest cfg0.spec c : sProp 𝕄) = scr c from scopedRest0_eq c]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, show (Pipeline.scopedRest cfg0.spec c : sProp 𝕄) = scr c from scopedRest0_eq c]
  unfold Φ₁
  iintro ⟨Hr, Hz⟩
  ihave Hz := (sems_split (F := F) c) $$ Hz
  icases Hz with ⟨Hu, Ho⟩
  isplitl [Hu]; · iexact Hu
  isplitl [Ho]; · iexact Ho
  iexact Hr

theorem waits (c : Dev nD) : (levAts L lv : sProp 𝕄) ⊢ Pipeline.cellsWaits cfgs (dats m ρ) 0 0 c :=
  Pipeline.cellsWaits_intro cfgs (dats m ρ) 0 0 c fun w s t => by
    rcases t with ⟨_ | _, ht⟩
    · exact mayWait 0 0 (by decide) (by simp [pmts]) c _
    · exact mayWait 0 14 (by decide) (by simp [pmts]) c _

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values, from any memory with zero counters: every weakly fair execution of the four kernels ends, with
    each device's arrays at the computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := owed 0) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := fun c => iprop(∃ K, start m ρ K c)) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands' arrays hold after the run what they held. -/
theorem finalA_x (c : Dev nD) : finalA m ρ c (0 : Fin 3) = (s₀ m ρ).mem (win0_0.arr.view.loc (c : Thread nD τ)) :=
  (dats (F := F) m ρ 0 c).arrAt_in (0 : Fin 3) rfl _
theorem finalA_w (c : Dev nD) : finalA m ρ c (1 : Fin 3) = (s₀ m ρ).mem (win0_1.arr.view.loc (c : Thread nD τ)) :=
  (dats (F := F) m ρ 0 c).arrAt_in (1 : Fin 3) rfl _

end Cert.KernelIdeal.RingProof

end
-- ==== Proof.Value.lean ====
/-
The kernel's result on extended reals: block `c` of the quantised product, whatever the operands hold.
-/
module

public import proofs.«01_k».proof.Proof.Run
public import proofs.«01_k».proof.Proof.Gen.ReferenceIdeal.Run
public import Idealize.ShloMosaic.Lib.MatmulPlain
public import Idealize.ShloMosaic.Lib.IdealHost
public import Idealize.ShloMosaic.Lib.LayoutAt
public import Idealize.ShloMosaic.Lib.ValueIdx
public import Idealize.ShloMosaic.Lib.StackMember
public import Idealize.ShloMosaic.Lib.Pointwise.ElementwiseCore
public import Mathlib.Logic.Equiv.Fin.Basic

@[expose] public section

noncomputable section

namespace Cert.KernelIdeal.RingProof

open Cert.KernelIdeal Cert.KernelIdeal.Gen
open Idealize.ShloMosaic Idealize.ShloMosaic.TcCoe Idealize.ShloMosaic.ValueIdx
open Idealize.ShloMosaic.Pipeline (Dat)
open scoped BigOperators

variable (m : (ℓ : Loc nD τ sig) → Buf (Elt Ideal) ℓ) (ρ : Dev nD → PrngReg)
variable (X : FVec Ideal ⟨2, ![4096, 4096]⟩ .f32) (W : FVec Ideal ⟨2, ![4096, 2048]⟩ .f32)

/-! ## Reading the operands -/

theorem finalA_o (c : Dev nD) : finalA m ρ c (2 : Fin 3) = outAt m ρ c := by
  have h : (win0_2.blk (0 : Fin 1)).view.read (Elt Ideal) (finalA m ρ c (2 : Fin 3)) = outAt m ρ c := by
    unfold finalA
    rw [show cfg0.N = ((0 : Fin 1) : Fin cfg0.N).val + 1 from rfl, (dats m ρ 0 c).arrAt_succ (2 : Fin 3) (0 : Fin 1)]
    rw [show (cfg0.win (2 : Fin 3)).flush (0 : Fin 1) = true from by decide, if_pos rfl]
    exact View.read_write_univ _ _
  rw [← h]
  exact (Memref.read_access_unit_zero (Elt Ideal) main_v1 (by decide) _ _).symm

theorem xstg_eq (c : Dev nD) : xstg m ρ c = m ((c : Thread nD τ).loc main_arg0) :=
  Memref.read_access_unit_zero (Elt Ideal) main_arg0 (by decide) _ _
theorem wstg_eq (c : Dev nD) : wstg m ρ c = m ((c : Thread nD τ).loc main_arg1) :=
  Memref.read_access_unit_zero (Elt Ideal) main_arg1 (by decide) _ _

/-- The operands of the devices are the blocks of `X`'s columns and `W`'s rows. -/
def Blocks : Prop := ∀ c : Dev nD,
  m ((c : Thread nD τ).loc main_arg0) = Layout.block ⟨2, ![4096, 1024]⟩ ⟨2, ![4096, 4096]⟩ 1 4 c X
  ∧ m ((c : Thread nD τ).loc main_arg1) = Layout.block ⟨2, ![1024, 2048]⟩ ⟨2, ![4096, 2048]⟩ 0 4 c W

/-- Row (column) `i` of block `c`, in the whole. -/
def at4 (c : Dev nD) (i : Fin 1024) : Fin 4096 := ⟨c.val * 1024 + i.val, by have h : c.val < 4 := c.isLt; omega⟩

variable {m X W} in
theorem xstg_at (h : Blocks m X W) (c : Dev nD) (r : Fin 4096) (k : Fin 1024) : xstg m ρ c (ix2 r k) = X (ix2 r (at4 c k)) := by
  rw [xstg_eq, (h c).1, Layout.block_apply]
  exact congrArg X (Layout.idx_ext fun b => by fin_cases b <;> rfl)
variable {m X W} in
theorem wstg_at (h : Blocks m X W) (c : Dev nD) (k : Fin 1024) (n : Fin 2048) : wstg m ρ c (ix2 k n) = W (ix2 (at4 c k) n) := by
  rw [wstg_eq, (h c).2, Layout.block_apply]
  exact congrArg W (Layout.idx_ext fun b => by fin_cases b <;> rfl)

/-! ## The product -/

/-- What device `d` adds to block `c` of the product. -/
def share (d c : Dev nD) (a : Fin 1024) (n : Fin 2048) : EReal :=
  ∑ k : Fin 1024, X (ix2 (at4 c a) (at4 d k)) * W (ix2 (at4 d k) n)

theorem dims_eq : dot_S1024x1024_S1024x2048_S1024x2048_1_0_0_1_n_n = DotDims.plain 1024 1024 2048 := rfl

variable {m X W} in
theorem dotAt_at (h : Blocks m X W) (d c : Dev nD) (off : Fin 2 → ℕ) (ho) (e : off = ![c.val * 1024, 0]) (a : Fin 1024) (n : Fin 2048) :
    dotAt m ρ d off ho (ix2 a n) = share X W d c a n := by
  subst e
  unfold dotAt k0_pay2 share
  rw [dims_eq]
  simp only [shapeCast_self]
  refine (Ideal.matmul_plain_apply (M := 1024) (K := 1024) (N := 2048) none _ _ _ a n).trans ?_
  rw [show (constant S1024x2048 .f32 0x00000000#32 : FVec Ideal S1024x2048 .f32) (ix2 a n) = 0 from Ideal.ofBits_zero_f32, zero_add]
  refine Finset.sum_congr rfl fun k _ => ?_
  rw [wstg_at ρ h d k n]
  refine congrArg (· * _) ?_
  refine Eq.trans ?_ (xstg_at ρ h d (at4 c a) k)
  show xstg m ρ d _ = _
  refine congrArg (xstg m ρ d) (Layout.idx_ext fun b => ?_)
  fin_cases b
  · show c.val * 1024 + 1 * a.val = c.val * 1024 + a.val; omega
  · show 0 + 1 * k.val = k.val; omega

/-- The product of whole arrays. -/
def Y : FVec Ideal ⟨2, ![4096, 2048]⟩ .f32 := fun j => ∑ K : Fin 4096, X (ix2 (j 0) K) * W (ix2 K (j 1))

theorem sum_shares (c : Dev nD) (a : Fin 1024) (n : Fin 2048) : ∑ d : Fin 4, share X W d c a n = Y X W (ix2 (at4 c a) n) := by
  unfold share Y
  rw [← Fintype.sum_prod_type', ← Equiv.sum_comp (finProdFinEquiv (m := 4) (n := 1024))]
  refine Finset.sum_congr rfl fun p _ => ?_
  have e : at4 p.1 p.2 = finProdFinEquiv p := Fin.ext (by show p.1.val * 1024 + p.2.val = p.2.val + 1024 * p.1.val; omega)
  rw [e]

theorem ring_order (s : Dev nD → EReal) (c : Dev nD) : ((s (prv (prv (prv c))) + s (prv (prv c))) + s (prv c)) + s c = s 0 + s 1 + s 2 + s 3 := by
  have e : ∀ c : Dev nD, c = 0 ∨ c = 1 ∨ c = 2 ∨ c = 3 := by decide
  rcases e c with rfl | rfl | rfl | rfl
  · rw [show prv (0 : Dev nD) = 3 from by decide, show prv (3 : Dev nD) = 2 from by decide, show prv (2 : Dev nD) = 1 from by decide]; abel
  · rw [show prv (1 : Dev nD) = 0 from by decide, show prv (0 : Dev nD) = 3 from by decide, show prv (3 : Dev nD) = 2 from by decide]; abel
  · rw [show prv (2 : Dev nD) = 1 from by decide, show prv (1 : Dev nD) = 0 from by decide, show prv (0 : Dev nD) = 3 from by decide]; abel
  · rw [show prv (3 : Dev nD) = 2 from by decide, show prv (2 : Dev nD) = 1 from by decide, show prv (1 : Dev nD) = 0 from by decide]

variable {m X W} in
theorem yAt_at (h : Blocks m X W) (c : Dev nD) (a : Fin 1024) (n : Fin 2048) : yAt m ρ c (ix2 a n) = Y X W (ix2 (at4 c a) n) := by
  rw [← sum_shares]
  show ((sent0 m ρ (prv (prv (prv c))) (ix2 a n) + part0 m ρ (prv (prv c)) (ix2 a n)) + part1 m ρ (prv c) (ix2 a n)) + part2 m ρ c (ix2 a n) = _
  unfold sent0 part0 part1 part2
  rw [dotAt_at ρ h _ c _ _ (by revert c; decide), dotAt_at ρ h _ c _ _ (by revert c; decide), dotAt_at ρ h _ c _ _ (by revert c; decide),
    dotAt_at ρ h _ c _ _ (by revert c; decide), Fin.sum_univ_four]
  generalize hs : (fun d : Dev nD => share X W d c a n) = s
  have hs' : ∀ d, share X W d c a n = s d := fun d => congrFun hs d
  simp only [hs']
  clear hs hs'
  exact ring_order s c

/-! ## The greatest modulus -/

/-- The value a maximum starts from. -/
def low : EReal := (FloatOps.ofBits .f32 0xFF800000#32 : Ideal .f32)

/-- A maximum over everything is below `b` when its start and every element are. -/
theorem red_le {s : Shape} {axes : List (Fin s.rank)} (src : FVec Ideal s .f32) (h : s.Reduces axes S1) (hφ) (hacc) (j : S1.Idx) (b : EReal) :
    multiReduction .maximumf axes S1 src 0xFF800000#32 h hφ hacc j ≤ b ↔ low ≤ b ∧ ∀ i, src i ≤ b := by
  rw [multiReduction_maximumf_eq_fold]
  refine (Finset.fold_max_le (b := low) (f := src) b).trans ?_
  refine and_congr_right fun _ => ⟨fun H i => H i (Finset.mem_filter.2 ⟨Finset.mem_univ _, ?_⟩), fun H i _ => H i⟩
  funext a
  exact Fin.ext (by have h1 := (h.drop i a).isLt; have h2 := (j a).isLt; fin_cases a; simp at h1 h2 ⊢; omega)

/-- The maximum the kernel's reductions take, of one block's moduli and of all rows of maxima. -/
def topOf {F : FTy → Type} [FloatOps F] (y : FVec F S1024x2048 .f32) (j : S1.Idx) : F .f32 :=
  multiReduction .maximumf [1, 2] S1 (shapeCast S1x1024x2048 (absf y) shapeCasts_S1024x2048_S1x1024x2048) 0xFF800000#32 reduces_S1x1024x2048_S1 (.inl rfl) rfl j
def topAll {F : FTy → Type} [FloatOps F] (y : FVec F S4x8x128 .f32) (j : S1.Idx) : F .f32 :=
  multiReduction .maximumf [1, 2, 3] S1 (shapeCast S1x4x8x128 y shapeCasts_S4x8x128_S1x4x8x128) 0xFF800000#32 reduces_S1x4x8x128_S1 (.inl rfl) rfl j
/-- The quantisation of one value at a scale. -/
def quant {F : FTy → Type} [FloatOps F] (y s : F .f32) : F .f32 :=
  FloatOps.mulf (FloatOps.minimumf (FloatOps.ofBits .f32 0x42FE0000#32) (FloatOps.maximumf (FloatOps.ofBits .f32 0xC2FE0000#32)
    (FloatOps.roundeven (FloatOps.divf y s)))) s
def scaleOf {F : FTy → Type} [FloatOps F] (t : F .f32) : F .f32 := Scalar.divf t (FloatOps.ofBits .f32 0x42FE0000#32)

/-- A reduction's one value, read through a reshape. -/
theorem extract_cast {α : Type} {s : Shape} (f : S1.Idx → α) (h : S1.ShapeCasts s) (pos : Fin s.rank → ℕ) (hp : ∀ a, pos a < s.size a) :
    ∃ j, extractAt pos (shapeCast s f h) hp = f j := ⟨_, rfl⟩

theorem pay9_eq {F : FTy → Type} [FloatOps F] (y : FVec F S1024x2048 .f32) (i : S1x8x128.Idx) : ∃ j, k0_pay9 y i = topOf y j := by
  obtain ⟨j, hj⟩ := extract_cast (fun j => topOf y j) shapeCasts_S1_S1x1x1 ![0, 0, 0] inpos_S1x1x1_p0_0_0
  refine ⟨j, Eq.trans ?_ hj⟩
  unfold k0_pay9 topOf
  rw [shapeCast_self, shapeCast_self]
  rw [broadcast_apply]

theorem pay10_eq {F : FTy → Type} [FloatOps F] (am : FVec F S4x8x128 .f32) (y : FVec F S1024x2048 .f32) (i : S1024x2048.Idx) :
    ∃ j, k0_pay10 am y i = quant (y i) (scaleOf (topAll am j)) := by
  obtain ⟨j, hj⟩ := extract_cast (fun j => topAll am j) shapeCasts_S1_S1x1x1x1 ![0, 0, 0, 0] inpos_S1x1x1x1_p0_0_0_0
  refine ⟨j, ?_⟩
  rw [← hj]
  unfold k0_pay10 topAll quant scaleOf
  generalize extractAt ![0, 0, 0, 0] (shapeCast S1x1x1x1 (fun j => multiReduction .maximumf [1, 2, 3] S1 (shapeCast S1x4x8x128 am shapeCasts_S4x8x128_S1x4x8x128) 0xFF800000#32 reduces_S1x4x8x128_S1 (.inl rfl) rfl j)
    shapeCasts_S1_S1x1x1x1) inpos_S1x1x1x1_p0_0_0_0 = t
  rw [shapeCast_self, Idealize.ShloMosaic.mulf_apply, Idealize.ShloMosaic.minimumf_apply, Idealize.ShloMosaic.maximumf_apply, Idealize.ShloMosaic.roundeven_apply, Idealize.ShloMosaic.divf_apply,
    broadcast_apply, broadcast_apply, broadcast_apply]

/-- A property of every element passes through a reshape. -/
theorem cast_forall {α : Type} {s t : Shape} (x : s.Idx → α) (h : s.ShapeCasts t) (P : α → Prop) : (∀ i, P (shapeCast t x h i)) ↔ ∀ j, P (x j) :=
  ⟨fun H j => by
    have h1 := H ((Shape.reshapeEquiv h).symm j)
    unfold shapeCast at h1
    rwa [Equiv.apply_symm_apply] at h1, fun H i => H _⟩

theorem topOf_le (y : FVec Ideal S1024x2048 .f32) (j : S1.Idx) (b : EReal) :
    (topOf y j : EReal) ≤ b ↔ low ≤ b ∧ ∀ k, (absf y k : EReal) ≤ b := by
  unfold topOf
  exact (red_le _ _ _ _ _ b).trans (and_congr_right fun _ => cast_forall (absf y) _ fun v : EReal => v ≤ b)
theorem topAll_le (y : FVec Ideal S4x8x128 .f32) (j : S1.Idx) (b : EReal) :
    (topAll y j : EReal) ≤ b ↔ low ≤ b ∧ ∀ k, (y k : EReal) ≤ b := by
  unfold topAll
  exact (red_le _ _ _ _ _ b).trans (and_congr_right fun _ => cast_forall y _ fun v : EReal => v ≤ b)

/-- Every index of the whole lies in a device's block. -/
theorem at4_surj (r : Fin 4096) : ∃ (c : Dev nD) (a : Fin 1024), r = at4 c a :=
  ⟨(⟨r.val / 1024, by omega⟩ : Fin 4), ⟨r.val % 1024, by omega⟩, Fin.ext (by show r.val = r.val / 1024 * 1024 + r.val % 1024; omega)⟩

variable {m X W} in
theorem top_le (h : Blocks m X W) (j : S1.Idx) (b : EReal) :
    (topAll (amAll m ρ) j : EReal) ≤ b ↔ low ≤ b ∧ ∀ i : Shape.Idx ⟨2, ![4096, 2048]⟩, (FloatOps.absf (Y X W i) : Ideal .f32) ≤ b := by
  refine (topAll_le _ j b).trans (and_congr_right fun hl => ⟨fun H i => ?_, fun H i => ?_⟩)
  · obtain ⟨r, n, rfl⟩ : ∃ (r : Fin 4096) (n : Fin 2048), i = ix2 r n := ⟨i 0, i 1, eq_ix2 i⟩
    obtain ⟨c, a, rfl⟩ := at4_surj r
    have h1 : (rowAt m ρ c (fun a => ⟨0, by fin_cases a <;> exact Nat.succ_pos _⟩) : EReal) ≤ b :=
      H (ix3 (Fin.cast rfl c) (0 : Fin 8) (0 : Fin 128))
    obtain ⟨j', e'⟩ := pay9_eq (F := Ideal) (yAt m ρ c) (fun a => ⟨0, by fin_cases a <;> exact Nat.succ_pos _⟩)
    unfold rowAt at h1
    rw [e'] at h1
    have h2 := ((topOf_le _ j' b).1 h1).2 (ix2 a n)
    rwa [Idealize.ShloMosaic.absf_apply, yAt_at ρ h] at h2
  · obtain ⟨j', e'⟩ := pay9_eq (F := Ideal) (yAt m ρ (Fin.cast rfl (i (0 : Fin 3)) : Fin 4)) (fun a => ⟨0, by fin_cases a <;> exact Nat.succ_pos _⟩)
    show (rowAt m ρ (Fin.cast rfl (i (0 : Fin 3)) : Fin 4) _ : EReal) ≤ b
    unfold rowAt
    rw [e']
    refine (topOf_le _ j' b).2 ⟨hl, fun k => ?_⟩
    obtain ⟨a, n, rfl⟩ : ∃ (a : Fin 1024) (n : Fin 2048), k = ix2 a n := ⟨k 0, k 1, eq_ix2 k⟩
    rw [Idealize.ShloMosaic.absf_apply, yAt_at ρ h]
    exact H _

end Cert.KernelIdeal.RingProof

/-! ## The reference -/

namespace Cert.ReferenceIdeal.RingProof

open Cert.ReferenceIdeal Cert.ReferenceIdeal.Gen
open Idealize.ShloMosaic Idealize.ShloMosaic.TcCoe Idealize.ShloMosaic.ValueIdx
open scoped BigOperators

/-- The reference's greatest modulus of a product, its quantisation at it. -/
def topRef {F : FTy → Type} [FloatOps F] (y : FVec F S4096x2048 .f32) : FVec F S_ .f32 :=
  Host.reduce FloatOps.maximumf (Host.absf y) (constant S_ .f32 0xFF800000#32) reducesTo_S4096x2048_S_d0_1 h_S_
def outRef {F : FTy → Type} [FloatOps F] (y : FVec F S4096x2048 .f32) : FVec F S4096x2048 .f32 :=
  mulf (minimumf (broadcastInDim S4096x2048 ![] bcast_S_S4096x2048 (id (constant S_ .f32 0x42FE0000#32)))
    (maximumf (broadcastInDim S4096x2048 ![] bcast_S_S4096x2048 (id (constant S_ .f32 0xC2FE0000#32)))
      (Host.roundeven (Host.divf y (broadcastInDim S4096x2048 ![] bcast_S_S4096x2048 (Host.divf (topRef y) (constant S_ .f32 0x42FE0000#32)))))))
    (broadcastInDim S4096x2048 ![] bcast_S_S4096x2048 (Host.divf (topRef y) (constant S_ .f32 0x42FE0000#32)))

theorem outRef_at {F : FTy → Type} [FloatOps F] (y : FVec F S4096x2048 .f32) (i : S4096x2048.Idx) :
    outRef y i = FloatOps.mulf (FloatOps.minimumf (FloatOps.ofBits .f32 0x42FE0000#32) (FloatOps.maximumf (FloatOps.ofBits .f32 0xC2FE0000#32)
      (FloatOps.hostUnary .roundeven (FloatOps.hostDivf (y i) (FloatOps.hostDivf (topRef y ix0) (FloatOps.ofBits .f32 0x42FE0000#32))))))
      (FloatOps.hostDivf (topRef y ix0) (FloatOps.ofBits .f32 0x42FE0000#32)) := by
  unfold outRef
  generalize topRef y = t
  rw [Idealize.ShloMosaic.mulf_apply, Idealize.ShloMosaic.minimumf_apply, Idealize.ShloMosaic.maximumf_apply, Host.roundeven_apply, Host.divf_apply,
    broadcastInDim_scalar_apply, broadcastInDim_scalar_apply, broadcastInDim_scalar_apply, Host.divf_apply]
  rfl

open Cert.KernelIdeal.RingProof (quant scaleOf low Y)

theorem outRef_quant (y : FVec Ideal S4096x2048 .f32) (i : S4096x2048.Idx) : outRef y i = quant (y i) (scaleOf (topRef y ix0)) := by
  rw [outRef_at]
  rfl

theorem topRef_le (y : FVec Ideal S4096x2048 .f32) (b : EReal) :
    (topRef y ix0 : EReal) ≤ b ↔ low ≤ b ∧ ∀ i, (FloatOps.absf (y i) : Ideal .f32) ≤ b := by
  unfold topRef
  rw [Host.reduce_eq_fold]
  refine (Finset.fold_max_le (b := low) (f := Host.absf y) b).trans ?_
  refine and_congr_right fun _ => ⟨fun H i => H i (Finset.mem_filter.2 ⟨Finset.mem_univ _, ?_⟩), fun H i _ => H i⟩
  exact funext fun a => a.elim0

theorem dot_at (X : FVec Ideal S4096x4096 .f32) (W : FVec Ideal S4096x2048 .f32) :
    Host.dotGeneral dot_S4096x4096_S4096x2048_S4096x2048_1_0_0_1_n_n none X W = Y X W := by
  funext i
  obtain ⟨r, n, rfl⟩ : ∃ (r : Fin 4096) (n : Fin 2048), i = ix2 r n := ⟨i 0, i 1, eq_ix2 i⟩
  exact StackMember.dotGeneral_plain_apply (m := 4096) (k := 4096) (n := 2048) none X W r n

end Cert.ReferenceIdeal.RingProof

namespace Cert.KernelIdeal.RingProof

open Cert.KernelIdeal Cert.KernelIdeal.Gen
open Idealize.ShloMosaic Idealize.ShloMosaic.TcCoe Idealize.ShloMosaic.ValueIdx
open Cert.ReferenceIdeal.RingProof (outRef topRef outRef_quant topRef_le)

variable {m : (ℓ : Loc nD τ sig) → Buf (Elt Ideal) ℓ} (ρ : Dev nD → PrngReg)
variable {X : FVec Ideal ⟨2, ![4096, 4096]⟩ .f32} {W : FVec Ideal ⟨2, ![4096, 2048]⟩ .f32}

/-- The two maxima are one. -/
theorem top_eq (h : Blocks m X W) (j : S1.Idx) : (topAll (amAll m ρ) j : EReal) = topRef (Y X W) ix0 :=
  eq_of_forall_ge_iff fun b => (top_le ρ h j b).trans (topRef_le (Y X W) b).symm

/-- Each device's result is its block of the reference's. -/
theorem outAt_eq (h : Blocks m X W) (c : Dev nD) :
    outAt m ρ c = Layout.block ⟨2, ![1024, 2048]⟩ ⟨2, ![4096, 2048]⟩ 0 4 c (outRef (F := Ideal) (Y X W)) := by
  funext i
  obtain ⟨a, n, rfl⟩ : ∃ (a : Fin 1024) (n : Fin 2048), i = ix2 a n := ⟨i 0, i 1, eq_ix2 i⟩
  obtain ⟨j, hj⟩ := pay10_eq (F := Ideal) (amAll m ρ) (yAt m ρ c) (ix2 a n)
  unfold outAt
  rw [hj, yAt_at ρ h, top_eq ρ h, Layout.block_apply, outRef_quant]
  generalize (scaleOf (topRef (Y X W) ix0) : Ideal .f32) = t
  exact congrArg (fun v => quant (F := Ideal) (Y X W v) t) (Layout.idx_ext fun b => by fin_cases b <;> rfl)

end Cert.KernelIdeal.RingProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.SL.Sem

/-- The kernel's frame, for any float values: the run of `Proof/Run.lean`, its operands unchanged. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono
    (fun _ h => ⟨fun c => ⟨(h.1 c (0 : Fin 3)).trans (Cert.KernelIdeal.RingProof.finalA_x m ρ c),
      (h.1 c (1 : Fin 3)).trans (Cert.KernelIdeal.RingProof.finalA_w m ρ c)⟩, h.2⟩)
    (Cert.KernelIdeal.RingProof.run_main m ρ)

/-- The two printings of the kernel have the same bodies. -/
theorem bodies_same {F : FTy → Type} [FloatOps F] : Cert.Kernel.defs₀ (F := F) = Cert.KernelIdeal.defs₀ (F := F) := by
  unfold Cert.Kernel.defs₀ Cert.KernelIdeal.defs₀
  refine congrArg Defs.onTc ?_
  funext x y
  rcases x with ⟨_ | x, h⟩
  · rfl
  · exact absurd h (Nat.not_lt.2 (Nat.le_add_left _ _))
theorem defs_same {F : FTy → Type} [FloatOps F] : Cert.Kernel.defs (F := F) = Cert.KernelIdeal.defs (F := F) :=
  congrArg (Pipeline.defs (Cert.KernelIdeal.pcfgs (F := F))) bodies_same

/-- On bit patterns, and on extended reals. -/
theorem frame_kernel : Cert.quiescent_Kernel := fun m ρ _ => by
  rw [defs_same]
  exact frame_any (F := Bits) m ρ
theorem frame_ideal : Cert.quiescent_KernelIdeal := fun m ρ _ => frame_any (F := Ideal) m ρ

/-- The reference's frame: host operations in a row, and no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- On extended reals every device ends with its block of the reference's result: its run of `Proof/Run.lean`, read by `Proof/Value.lean`. -/
theorem algebraic : Cert.algebraic_KernelIdeal_ReferenceIdeal := fun m ρ m' ρ' _ hb => by
  have h : Cert.KernelIdeal.RingProof.Blocks m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)) := hb
  refine ⟨_, (θ_run Cert.KernelIdeal.defs _ _).mono (fun r H c =>
      ⟨((H.1 c (2 : Fin 3)).trans (Cert.KernelIdeal.RingProof.finalA_o m ρ c)).trans (Cert.KernelIdeal.RingProof.outAt_eq ρ h c),
        (H.1 c (0 : Fin 3)).trans (Cert.KernelIdeal.RingProof.finalA_x m ρ c), (H.1 c (1 : Fin 3)).trans (Cert.KernelIdeal.RingProof.finalA_w m ρ c)⟩)
      (Cert.KernelIdeal.RingProof.run_main (F := Ideal) m ρ),
    (θ_run Cert.ReferenceIdeal.defs _ _).mono (fun r H => ⟨(H 0).1.trans ?_, (H 0).2⟩) (Cert.ReferenceIdeal.Value.run (F := Ideal) m' ρ')⟩
  unfold Cert.ReferenceIdeal.RingProof.outRef Cert.ReferenceIdeal.RingProof.topRef
  rw [Cert.ReferenceIdeal.RingProof.dot_at]

theorem claim : Cert.Claim := ⟨Cert.Kernel.Gen.facts, Cert.KernelIdeal.Gen.facts, Cert.ReferenceIdeal.Gen.facts,
  frame_kernel, frame_ideal, frame_reference, trivial, algebraic⟩

end Cert.Proof

end
